-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_on_tokens_only_pre_finite [hKernelIdeal : Cert.KernelIdeal.Facts] [hReferenceIdeal : Cert.ReferenceIdeal.Facts] [hPre_finite : Cert.Pre_finite.Facts] [hOn_tokens_only : Cert.On_tokens_only.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)) (v5 : (c : Dev Cert.KernelIdeal.nD) → Buf (Elt Ideal) ((c.tc : Thread Cert.KernelIdeal.nD Cert.KernelIdeal.τ).loc Cert.KernelIdeal.main_v3_5)) (v6 : (c : Dev Cert.KernelIdeal.nD) → Buf (Elt Ideal) ((c.tc : Thread Cert.KernelIdeal.nD Cert.KernelIdeal.τ).loc Cert.KernelIdeal.main_v3_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![12, 2560]⟩ : Shape).Idx, (Cert.On_tokens_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.KernelIdeal.nD Cert.KernelIdeal.τ).loc Cert.KernelIdeal.main_v3_0) i = v0 c i)
          ∧ (∀ i : (⟨2, ![12, 2048]⟩ : Shape).Idx, (Cert.On_tokens_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.KernelIdeal.nD Cert.KernelIdeal.τ).loc Cert.KernelIdeal.main_v3_1) i = v1 c i)
          ∧ (∀ i : (⟨2, ![12, 2048]⟩ : Shape).Idx, (Cert.On_tokens_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 i = 1#1 → r.2.mem ((c.tc : Thread Cert.KernelIdeal.nD Cert.KernelIdeal.τ).loc Cert.KernelIdeal.main_v3_2) i = v2 c i)
          ∧ (∀ i : (⟨3, ![12, 2048, 1792]⟩ : Shape).Idx, (Cert.On_tokens_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 i = 1#1 → r.2.mem ((c.tc : Thread Cert.KernelIdeal.nD Cert.KernelIdeal.τ).loc Cert.KernelIdeal.main_v3_3) i = v3 c i)
          ∧ (∀ i : (⟨3, ![12, 56, 2047]⟩ : Shape).Idx, (Cert.On_tokens_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 i = 1#1 → r.2.mem ((c.tc : Thread Cert.KernelIdeal.nD Cert.KernelIdeal.τ).loc Cert.KernelIdeal.main_v3_4) i = v4 c i)
          ∧ (∀ i : (⟨3, ![12, 2048, 2560]⟩ : Shape).Idx, (Cert.On_tokens_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 i = 1#1 → r.2.mem ((c.tc : Thread Cert.KernelIdeal.nD Cert.KernelIdeal.τ).loc Cert.KernelIdeal.main_v3_5) i = v5 c i)
          ∧ (∀ i : (⟨2, ![12, 2048]⟩ : Shape).Idx, (Cert.On_tokens_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 i = 1#1 → r.2.mem ((c.tc : Thread Cert.KernelIdeal.nD Cert.KernelIdeal.τ).loc Cert.KernelIdeal.main_v3_6) i = v6 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![12, 2560]⟩ : Shape).Idx, (Cert.On_tokens_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.ReferenceIdeal.nD Cert.ReferenceIdeal.τ).loc Cert.ReferenceIdeal.main_v10) i = v0 c i)
          ∧ (∀ i : (⟨2, ![12, 2048]⟩ : Shape).Idx, (Cert.On_tokens_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.ReferenceIdeal.nD Cert.ReferenceIdeal.τ).loc Cert.ReferenceIdeal.main_v36) i = v1 c i)
          ∧ (∀ i : (⟨2, ![12, 2048]⟩ : Shape).Idx, (Cert.On_tokens_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 i = 1#1 → r.2.mem ((c.tc : Thread Cert.ReferenceIdeal.nD Cert.ReferenceIdeal.τ).loc Cert.ReferenceIdeal.main_v27) i = v2 c i)
          ∧ (∀ i : (⟨3, ![12, 2048, 1792]⟩ : Shape).Idx, (Cert.On_tokens_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 i = 1#1 → r.2.mem ((c.tc : Thread Cert.ReferenceIdeal.nD Cert.ReferenceIdeal.τ).loc Cert.ReferenceIdeal.main_v42_0) i = v3 c i)
          ∧ (∀ i : (⟨3, ![12, 56, 2047]⟩ : Shape).Idx, (Cert.On_tokens_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 i = 1#1 → r.2.mem ((c.tc : Thread Cert.ReferenceIdeal.nD Cert.ReferenceIdeal.τ).loc Cert.ReferenceIdeal.main_v42_1) i = v4 c i)
          ∧ (∀ i : (⟨3, ![12, 2048, 2560]⟩ : Shape).Idx, (Cert.On_tokens_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 i = 1#1 → r.2.mem ((c.tc : Thread Cert.ReferenceIdeal.nD Cert.ReferenceIdeal.τ).loc Cert.ReferenceIdeal.main_v42_2) i = v5 c i)
          ∧ (∀ i : (⟨2, ![12, 2048]⟩ : Shape).Idx, (Cert.On_tokens_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 i = 1#1 → r.2.mem ((c.tc : Thread Cert.ReferenceIdeal.nD Cert.ReferenceIdeal.τ).loc Cert.ReferenceIdeal.main_v42_3) i = v6 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite : Cert.Pre_finite.Facts) (hOn_tokens_only : Cert.On_tokens_only.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_on_tokens_only_pre_finite (hKernelIdeal := hKernelIdeal) (hReferenceIdeal := hReferenceIdeal) (hPre_finite := hPre_finite) (hOn_tokens_only := hOn_tokens_only)
-- ==== On_tokens_only.lean ====
abbrev S12x2048x2560 : Shape := ⟨3, ![12, 2048, 2560]⟩
abbrev S12 : Shape := ⟨1, ![12]⟩
abbrev S12x2048 : Shape := ⟨2, ![12, 2048]⟩
abbrev S2560 : Shape := ⟨1, ![2560]⟩
abbrev S1 : Shape := ⟨1, ![1]⟩
abbrev S2560x1792 : Shape := ⟨2, ![2560, 1792]⟩
abbrev S1792 : Shape := ⟨1, ![1792]⟩
abbrev S12x2560 : Shape := ⟨2, ![12, 2560]⟩
abbrev S_ : Shape := ⟨0, ![]⟩
abbrev S12x2048x1792 : Shape := ⟨3, ![12, 2048, 1792]⟩
abbrev S12x56x2047 : Shape := ⟨3, ![12, 56, 2047]⟩

class Facts : Prop where
  bcast_S_S12x2560 : S_.BroadcastsInDim S12x2560 (![] : Fin 0 → Fin S12x2560.rank)
  bcast_S_S12x2048 : S_.BroadcastsInDim S12x2048 (![] : Fin 0 → Fin S12x2048.rank)
  bcast_S_S12x2048x1792 : S_.BroadcastsInDim S12x2048x1792 (![] : Fin 0 → Fin S12x2048x1792.rank)
  bcast_S_S12x56x2047 : S_.BroadcastsInDim S12x56x2047 (![] : Fin 0 → Fin S12x56x2047.rank)
  bcast_S_S12x2048x2560 : S_.BroadcastsInDim S12x2048x2560 (![] : Fin 0 → Fin S12x2048x2560.rank)

variable [Facts]

def fn_part1 {F : FTy → Type} [FloatOps F] (main_v2 : IVec S12x2560 1) (main_v5 : IVec S12x2048 1) (main_v8 : IVec S12x2048 1) (main_v11 : IVec S12x2048x1792 1) (main_v14 : IVec S12x56x2047 1) (main_v17 : IVec S12x2048x2560 1) : IVec S12x2560 1 × IVec S12x2048 1 × IVec S12x2048 1 × IVec S12x2048x1792 1 × IVec S12x56x2047 1 × IVec S12x2048x2560 1 × IVec S12x2048 1 :=
  let main_v18 : IVec S12x2048 32 := iotaInDim S12x2048 32 1
  let main_c_5 : IVec S_ 32 := constantI S_ 32 2047#32
  let main_v19 : IVec S12x2048 32 := broadcastInDim S12x2048 ![] bcast_S_S12x2048 main_c_5
  let main_v20 : IVec S12x2048 1 := cmpi .slt main_v18 main_v19
  (main_v2, main_v5, main_v8, main_v11, main_v14, main_v17, main_v20)

def fn {F : FTy → Type} [FloatOps F] (main_arg0 : FVec F S12x2048x2560 .bf16) (main_arg1 : IVec S12 32) (main_arg2 : IVec S12x2048 32) (main_arg3 : FVec F S2560 .f32) (main_arg4 : FVec F S1 .f32) (main_arg5 : FVec F S2560x1792 .fp8e4m3) (main_arg6 : FVec F S1792 .f32) (main_arg7 : FVec F S1792 .f32) : IVec S12x2560 1 × IVec S12x2048 1 × IVec S12x2048 1 × IVec S12x2048x1792 1 × IVec S12x56x2047 1 × IVec S12x2048x2560 1 × IVec S12x2048 1 :=
  let main_v0 : IVec S12x2560 32 := iotaInDim S12x2560 32 0
  let main_c : IVec S_ 32 := constantI S_ 32 0#32
  let main_v1 : IVec S12x2560 32 := broadcastInDim S12x2560 ![] bcast_S_S12x2560 main_c
  let main_v2 : IVec S12x2560 1 := cmpi .slt main_v0 main_v1
  let main_v3 : IVec S12x2048 32 := iotaInDim S12x2048 32 0
  let main_c_0 : IVec S_ 32 := constantI S_ 32 0#32
  let main_v4 : IVec S12x2048 32 := broadcastInDim S12x2048 ![] bcast_S_S12x2048 main_c_0
  let main_v5 : IVec S12x2048 1 := cmpi .slt main_v3 main_v4
  let main_v6 : IVec S12x2048 32 := iotaInDim S12x2048 32 0
  let main_c_1 : IVec S_ 32 := constantI S_ 32 0#32
  let main_v7 : IVec S12x2048 32 := broadcastInDim S12x2048 ![] bcast_S_S12x2048 main_c_1
  let main_v8 : IVec S12x2048 1 := cmpi .slt main_v6 main_v7
  let main_v9 : IVec S12x2048x1792 32 := iotaInDim S12x2048x1792 32 1
  let main_c_2 : IVec S_ 32 := constantI S_ 32 2047#32
  let main_v10 : IVec S12x2048x1792 32 := broadcastInDim S12x2048x1792 ![] bcast_S_S12x2048x1792 main_c_2
  let main_v11 : IVec S12x2048x1792 1 := cmpi .slt main_v9 main_v10
  let main_v12 : IVec S12x56x2047 32 := iotaInDim S12x56x2047 32 0
  let main_c_3 : IVec S_ 32 := constantI S_ 32 0#32
  let main_v13 : IVec S12x56x2047 32 := broadcastInDim S12x56x2047 ![] bcast_S_S12x56x2047 main_c_3
  let main_v14 : IVec S12x56x2047 1 := cmpi .sge main_v12 main_v13
  let main_v15 : IVec S12x2048x2560 32 := iotaInDim S12x2048x2560 32 1
  let main_c_4 : IVec S_ 32 := constantI S_ 32 2047#32
  let main_v16 : IVec S12x2048x2560 32 := broadcastInDim S12x2048x2560 ![] bcast_S_S12x2048x2560 main_c_4
  let main_v17 : IVec S12x2048x2560 1 := cmpi .slt main_v15 main_v16
  fn_part1 (F := F) main_v2 main_v5 main_v8 main_v11 main_v14 main_v17
-- ==== Pre_finite.lean ====
abbrev S12x2048x2560 : Shape := ⟨3, ![12, 2048, 2560]⟩
abbrev S12 : Shape := ⟨1, ![12]⟩
abbrev S12x2048 : Shape := ⟨2, ![12, 2048]⟩
abbrev S2560 : Shape := ⟨1, ![2560]⟩
abbrev S1 : Shape := ⟨1, ![1]⟩
abbrev S2560x1792 : Shape := ⟨2, ![2560, 1792]⟩
abbrev S1792 : Shape := ⟨1, ![1792]⟩
abbrev S_ : Shape := ⟨0, ![]⟩

class Facts : Prop where
  bcast_S_S12x2048x2560 : S_.BroadcastsInDim S12x2048x2560 (![] : Fin 0 → Fin S12x2048x2560.rank)
  reducesTo_S12x2048x2560_S_d0_1_2 : S12x2048x2560.ReducesTo [0, 1, 2] S_
  h_S_ : 0 < S_.numel

variable [Facts]

def fn {F : FTy → Type} [FloatOps F] (main_arg0 : FVec F S12x2048x2560 .bf16) (main_arg1 : IVec S12 32) (main_arg2 : IVec S12x2048 32) (main_arg3 : FVec F S2560 .f32) (main_arg4 : FVec F S1 .f32) (main_arg5 : FVec F S2560x1792 .fp8e4m3) (main_arg6 : FVec F S1792 .f32) (main_arg7 : FVec F S1792 .f32) : IVec S_ 1 :=
  let main_v0 : FVec F S12x2048x2560 .bf16 := Host.absf main_arg0
  let main_cst : FVec F S_ .bf16 := constant S_ .bf16 0x7F7F#16
  let main_v1 : FVec F S12x2048x2560 .bf16 := broadcastInDim S12x2048x2560 ![] bcast_S_S12x2048x2560 main_cst
  let main_v2 : IVec S12x2048x2560 1 := cmpf .ole main_v0 main_v1
  let main_c : IVec S_ 1 := constantI S_ 1 1#1
  let main_v3 : IVec S_ 1 := (fun x v => Host.reduce IntOp.andi x v reducesTo_S12x2048x2560_S_d0_1_2 h_S_) main_v2 main_c
  main_v3
-- ==== Kernel.lean ====
abbrev S12x2048x2560 : Shape := ⟨3, ![12, 2048, 2560]⟩
abbrev S12 : Shape := ⟨1, ![12]⟩
abbrev S12x2048 : Shape := ⟨2, ![12, 2048]⟩
abbrev S2560 : Shape := ⟨1, ![2560]⟩
abbrev S1 : Shape := ⟨1, ![1]⟩
abbrev S2560x1792 : Shape := ⟨2, ![2560, 1792]⟩
abbrev S1792 : Shape := ⟨1, ![1792]⟩
abbrev S1x2560 : Shape := ⟨2, ![1, 2560]⟩
abbrev S1x1792 : Shape := ⟨2, ![1, 1792]⟩
abbrev S12x2560 : Shape := ⟨2, ![12, 2560]⟩
abbrev S12x2048x1792 : Shape := ⟨3, ![12, 2048, 1792]⟩
abbrev S12x56x2047 : Shape := ⟨3, ![12, 56, 2047]⟩
abbrev S1x256x2560 : Shape := ⟨3, ![1, 256, 2560]⟩
abbrev S1x16x2560 : Shape := ⟨3, ![1, 16, 2560]⟩
abbrev S1x256x1792 : Shape := ⟨3, ![1, 256, 1792]⟩
abbrev S1x56x256 : Shape := ⟨3, ![1, 56, 256]⟩
abbrev S1792x2560 : Shape := ⟨2, ![1792, 2560]⟩
abbrev S1792x128 : Shape := ⟨2, ![1792, 128]⟩
abbrev S288x2560 : Shape := ⟨2, ![288, 2560]⟩
abbrev S288x128 : Shape := ⟨2, ![288, 128]⟩
abbrev S1792x256 : Shape := ⟨2, ![1792, 256]⟩
abbrev S128x1792 : Shape := ⟨2, ![128, 1792]⟩
abbrev S1x32x2560 : Shape := ⟨3, ![1, 32, 2560]⟩
abbrev S32x2560 : Shape := ⟨2, ![32, 2560]⟩
abbrev S32 : Shape := ⟨1, ![32]⟩
abbrev S32x1 : Shape := ⟨2, ![32, 1]⟩
abbrev S32x128 : Shape := ⟨2, ![32, 128]⟩
abbrev S16x2560 : Shape := ⟨2, ![16, 2560]⟩
abbrev S256x2560 : Shape := ⟨2, ![256, 2560]⟩
abbrev S256x128 : Shape := ⟨2, ![256, 128]⟩
abbrev S128x256 : Shape := ⟨2, ![128, 256]⟩
abbrev S1x256 : Shape := ⟨2, ![1, 256]⟩
abbrev S1x8x2560 : Shape := ⟨3, ![1, 8, 2560]⟩
abbrev S8x2560 : Shape := ⟨2, ![8, 2560]⟩
abbrev S1x1 : Shape := ⟨2, ![1, 1]⟩
abbrev S1x2048 : Shape := ⟨2, ![1, 2048]⟩
abbrev S256x256 : Shape := ⟨2, ![256, 256]⟩
abbrev S256 : Shape := ⟨1, ![256]⟩
abbrev S8x256 : Shape := ⟨2, ![8, 256]⟩
abbrev S32x256 : Shape := ⟨2, ![32, 256]⟩
abbrev S4x8x256 : Shape := ⟨3, ![4, 8, 256]⟩
abbrev S1x1x256 : Shape := ⟨3, ![1, 1, 256]⟩
abbrev S256x1792 : Shape := ⟨2, ![256, 1792]⟩

abbrev nBuf : Space → Nat
  | .hbm => 18
  | .vmem => 26
  | .smem => 2
  | _ => 0

abbrev bufTy : (tb : Table) → Fin (tcTables nBuf tb) → BufTy
  | .hbm, ⟨0, _⟩ => ⟨S12x2048x2560, .bf16⟩
  | .hbm, ⟨1, _⟩ => ⟨S12, .i32⟩
  | .hbm, ⟨2, _⟩ => ⟨S12x2048, .i32⟩
  | .hbm, ⟨3, _⟩ => ⟨S2560, .f32⟩
  | .hbm, ⟨4, _⟩ => ⟨S1, .f32⟩
  | .hbm, ⟨5, _⟩ => ⟨S2560x1792, .fp8e4m3⟩
  | .hbm, ⟨6, _⟩ => ⟨S1792, .f32⟩
  | .hbm, ⟨7, _⟩ => ⟨S1792, .f32⟩
  | .hbm, ⟨8, _⟩ => ⟨S1x2560, .f32⟩
  | .hbm, ⟨9, _⟩ => ⟨S1x1792, .f32⟩
  | .hbm, ⟨10, _⟩ => ⟨S1x1792, .f32⟩
  | .hbm, ⟨11, _⟩ => ⟨S12x2560, .f32⟩
  | .hbm, ⟨12, _⟩ => ⟨S12x2048, .f32⟩
  | .hbm, ⟨13, _⟩ => ⟨S12x2048, .f32⟩
  | .hbm, ⟨14, _⟩ => ⟨S12x2048x1792, .fp8e4m3⟩
  | .hbm, ⟨15, _⟩ => ⟨S12x56x2047, .f32⟩
  | .hbm, ⟨16, _⟩ => ⟨S12x2048x2560, .fp8e4m3⟩
  | .hbm, ⟨17, _⟩ => ⟨S12x2048, .f32⟩
  | .local _ .vmem, ⟨0, _⟩ => ⟨S1x256x2560, .bf16⟩
  | .local _ .vmem, ⟨1, _⟩ => ⟨S1x256x2560, .bf16⟩
  | .local _ .vmem, ⟨2, _⟩ => ⟨S1x16x2560, .bf16⟩
  | .local _ .vmem, ⟨3, _⟩ => ⟨S1x16x2560, .bf16⟩
  | .local _ .vmem, ⟨4, _⟩ => ⟨S12x2048, .i32⟩
  | .local _ .vmem, ⟨5, _⟩ => ⟨S1x2560, .f32⟩
  | .local _ .vmem, ⟨6, _⟩ => ⟨S2560x1792, .fp8e4m3⟩
  | .local _ .vmem, ⟨7, _⟩ => ⟨S1x1792, .f32⟩
  | .local _ .vmem, ⟨8, _⟩ => ⟨S1x1792, .f32⟩
  | .local _ .vmem, ⟨9, _⟩ => ⟨S12x2560, .f32⟩
  | .local _ .vmem, ⟨10, _⟩ => ⟨S12x2048, .f32⟩
  | .local _ .vmem, ⟨11, _⟩ => ⟨S12x2048, .f32⟩
  | .local _ .vmem, ⟨12, _⟩ => ⟨S1x256x1792, .fp8e4m3⟩
  | .local _ .vmem, ⟨13, _⟩ => ⟨S1x256x1792, .fp8e4m3⟩
  | .local _ .vmem, ⟨14, _⟩ => ⟨S1x56x256, .f32⟩
  | .local _ .vmem, ⟨15, _⟩ => ⟨S1x56x256, .f32⟩
  | .local _ .vmem, ⟨16, _⟩ => ⟨S1x256x2560, .fp8e4m3⟩
  | .local _ .vmem, ⟨17, _⟩ => ⟨S1x256x2560, .fp8e4m3⟩
  | .local _ .vmem, ⟨18, _⟩ => ⟨S12x2048, .f32⟩
  | .local _ .vmem, ⟨19, _⟩ => ⟨S1792x2560, .fp8e4m3⟩
  | .local _ .vmem, ⟨20, _⟩ => ⟨S1792x128, .f32⟩
  | .local _ .vmem, ⟨21, _⟩ => ⟨S1792x128, .f32⟩
  | .local _ .vmem, ⟨22, _⟩ => ⟨S288x2560, .fp8e4m3⟩
  | .local _ .vmem, ⟨23, _⟩ => ⟨S288x128, .f32⟩
  | .local _ .vmem, ⟨24, _⟩ => ⟨S1792x256, .f32⟩
  | .local _ .vmem, ⟨25, _⟩ => ⟨S1792x256, .fp8e4m3⟩
  | .local _ .smem, ⟨0, _⟩ => ⟨S12, .i32⟩
  | .local _ .smem, ⟨1, _⟩ => ⟨S1, .f32⟩
  | _, _ => ⟨S12x2048x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev main_v3_5 : Ref sig .tc := ⟨.hbm, 16, rfl⟩
abbrev main_v3_6 : Ref sig .tc := ⟨.hbm, 17, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg12_1 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch6 : Ref sig .tc := ⟨.vmem, 25, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20

abbrev nD : Nat := 1
abbrev τ : Topo := Topo.v7x

variable {F : FTy → Type} [FloatOps F]

abbrev grid0 : Pipeline.Grid := ⟨2, ![12, 8], ![false, false]⟩

def k0_off1 (i : grid0.Coords) : Fin 1 → Nat :=
  let arg0 : BitVec 32 := BitVec.ofNat 32 (i 0).val
  let v0 : Index := Scalar.indexCast arg0
  ![v0.toNat]
def k0_mult1 (i : grid0.Coords) : BitVec 32 :=
  let arg1 : BitVec 32 := BitVec.ofNat 32 (i 1).val
  let c256_i32 : BitVec 32 := 256#32
  let v1032 : BitVec 32 := Scalar.muli arg1 c256_i32
  v1032
def k0_off2 (i : grid0.Coords) : Fin 2 → Nat :=
  let arg0 : BitVec 32 := BitVec.ofNat 32 (i 0).val
  let v1034 : Index := Scalar.indexCast arg0
  let arg1 : BitVec 32 := BitVec.ofNat 32 (i 1).val
  let c256_i32 : BitVec 32 := 256#32
  let v1032 : BitVec 32 := Scalar.muli arg1 c256_i32
  let v1033 : BitVec 32 := v1032
  let v1035 : Index := Scalar.indexCast v1033
  ![v1034.toNat, v1035.toNat]
def k0_cond2 (i : grid0.Coords) : BitVec 1 :=
  let arg1 : BitVec 32 := BitVec.ofNat 32 (i 1).val
  let c0_i32_365 : BitVec 32 := 0#32
  let v1037 : BitVec 1 := Scalar.cmpi .eq arg1 c0_i32_365
  let v1038 : BitVec 32 := Scalar.extui v1037
  let c0_i32_366 : BitVec 32 := 0#32
  let v1039 : BitVec 1 := Scalar.cmpi .ne v1038 c0_i32_366
  v1039

def k0_off3 (i : grid0.Coords) : Fin 2 → Nat :=
  let arg0 : BitVec 32 := BitVec.ofNat 32 (i 0).val
  let v1072 : Index := Scalar.indexCast arg0
  let c0_383 : Index := 0#32
  ![v1072.toNat, 0]
def k0_off4 (i : grid0.Coords) : Fin 2 → Nat :=
  let arg0 : BitVec 32 := BitVec.ofNat 32 (i 0).val
  let v1075 : Index := Scalar.indexCast arg0
  let c0_385 : Index := 0#32
  ![v1075.toNat, 0]
def k0_mult2 (i : grid0.Coords) : BitVec 32 :=
  let arg1 : BitVec 32 := BitVec.ofNat 32 (i 1).val
  let c256_i32_367 : BitVec 32 := 256#32
  let v1040 : BitVec 32 := Scalar.muli arg1 c256_i32_367
  v1040
def k0_off5 (i : grid0.Coords) : Fin 2 → Nat :=
  let arg0 : BitVec 32 := BitVec.ofNat 32 (i 0).val
  let v1297 : Index := Scalar.indexCast arg0
  let arg1 : BitVec 32 := BitVec.ofNat 32 (i 1).val
  let c256_i32_367 : BitVec 32 := 256#32
  let v1040 : BitVec 32 := Scalar.muli arg1 c256_i32_367
  let v1041 : BitVec 32 := v1040
  let v1298 : Index := Scalar.indexCast v1041
  ![v1297.toNat, v1298.toNat]
@[reducible] def k0_t1_loop (i : grid0.Coords) : Scf.Loop 32 :=
  let c0_i32_475 : BitVec 32 := 0#32
  let arg1 : BitVec 32 := BitVec.ofNat 32 (i 1).val
  let c1_i32_474 : BitVec 32 := 1#32
  let v1308 : BitVec 32 := Scalar.addi arg1 c1_i32_474
  let v1309 : BitVec 32 := Scalar.subi v1308 c0_i32_475
  let c1_i32_477 : BitVec 32 := 1#32
  let v1311 : BitVec 32 := Scalar.divsi v1309 c1_i32_477
  let v1312 : BitVec 32 := Scalar.muli v1311 c1_i32_477
  let v1313 : BitVec 32 := Scalar.addi c0_i32_475 v1312
  let c1_i32_478 : BitVec 32 := 1#32
  ⟨c0_i32_475, v1313, c1_i32_478⟩
def k0_mult3 (i : grid0.Coords) (k0_t1 : Fin (k0_t1_loop i).trips) : BitVec 32 :=
  let c0_i32_475 : BitVec 32 := 0#32
  let c1_i32_478 : BitVec 32 := 1#32
  let arg25 : BitVec 32 := Scf.iv c0_i32_475 c1_i32_478 k0_t1
  let c256_i32_480 : BitVec 32 := 256#32
  let v1316 : BitVec 32 := Scalar.muli arg25 c256_i32_480
  v1316
def k0_off6 (i : grid0.Coords) (k0_t1 : Fin (k0_t1_loop i).trips) : Fin 2 → Nat :=
  let arg0 : BitVec 32 := BitVec.ofNat 32 (i 0).val
  let v1327 : Index := Scalar.indexCast arg0
  let c0_i32_475 : BitVec 32 := 0#32
  let c1_i32_478 : BitVec 32 := 1#32
  let arg25 : BitVec 32 := Scf.iv c0_i32_475 c1_i32_478 k0_t1
  let c256_i32_480 : BitVec 32 := 256#32
  let v1316 : BitVec 32 := Scalar.muli arg25 c256_i32_480
  let v1317 : BitVec 32 := v1316
  let v1328 : Index := Scalar.indexCast v1317
  ![v1327.toNat, v1328.toNat]
@[reducible] def k0_t2_loop (i : grid0.Coords) : Scf.Loop 32 :=
  let c0_i32_475 : BitVec 32 := 0#32
  let arg1 : BitVec 32 := BitVec.ofNat 32 (i 1).val
  let c1_i32_474 : BitVec 32 := 1#32
  let v1308 : BitVec 32 := Scalar.addi arg1 c1_i32_474
  let v1309 : BitVec 32 := Scalar.subi v1308 c0_i32_475
  let c1_i32_477 : BitVec 32 := 1#32
  let v1311 : BitVec 32 := Scalar.divsi v1309 c1_i32_477
  let v1312 : BitVec 32 := Scalar.muli v1311 c1_i32_477
  let v1313 : BitVec 32 := Scalar.addi c0_i32_475 v1312
  let v1310 : BitVec 32 := Scalar.addi c0_i32_475 v1309
  let c1_i32_479 : BitVec 32 := 1#32
  ⟨v1313, v1310, c1_i32_479⟩
def k0_mult4 (i : grid0.Coords) (k0_t2 : Fin (k0_t2_loop i).trips) : BitVec 32 :=
  let c0_i32_475 : BitVec 32 := 0#32
  let arg1 : BitVec 32 := BitVec.ofNat 32 (i 1).val
  let c1_i32_474 : BitVec 32 := 1#32
  let v1308 : BitVec 32 := Scalar.addi arg1 c1_i32_474
  let v1309 : BitVec 32 := Scalar.subi v1308 c0_i32_475
  let c1_i32_477 : BitVec 32 := 1#32
  let v1311 : BitVec 32 := Scalar.divsi v1309 c1_i32_477
  let v1312 : BitVec 32 := Scalar.muli v1311 c1_i32_477
  let v1313 : BitVec 32 := Scalar.addi c0_i32_475 v1312
  let c1_i32_479 : BitVec 32 := 1#32
  let arg25 : BitVec 32 := Scf.iv v1313 c1_i32_479 k0_t2
  let c256_i32_480 : BitVec 32 := 256#32
  let v1316 : BitVec 32 := Scalar.muli arg25 c256_i32_480
  v1316
def k0_off7 (i : grid0.Coords) (k0_t2 : Fin (k0_t2_loop i).trips) : Fin 2 → Nat :=
  let arg0 : BitVec 32 := BitVec.ofNat 32 (i 0).val
  let v1327 : Index := Scalar.indexCast arg0
  let c0_i32_475 : BitVec 32 := 0#32
  let arg1 : BitVec 32 := BitVec.ofNat 32 (i 1).val
  let c1_i32_474 : BitVec 32 := 1#32
  let v1308 : BitVec 32 := Scalar.addi arg1 c1_i32_474
  let v1309 : BitVec 32 := Scalar.subi v1308 c0_i32_475
  let c1_i32_477 : BitVec 32 := 1#32
  let v1311 : BitVec 32 := Scalar.divsi v1309 c1_i32_477
  let v1312 : BitVec 32 := Scalar.muli v1311 c1_i32_477
  let v1313 : BitVec 32 := Scalar.addi c0_i32_475 v1312
  let c1_i32_479 : BitVec 32 := 1#32
  let arg25 : BitVec 32 := Scf.iv v1313 c1_i32_479 k0_t2
  let c256_i32_480 : BitVec 32 := 256#32
  let v1316 : BitVec 32 := Scalar.muli arg25 c256_i32_480
  let v1317 : BitVec 32 := v1316
  let v1328 : Index := Scalar.indexCast v1317
  ![v1327.toNat, v1328.toNat]
def k0_off8 (i : grid0.Coords) : Fin 2 → Nat :=
  let arg0 : BitVec 32 := BitVec.ofNat 32 (i 0).val
  let v1061 : Index := Scalar.indexCast arg0
  let arg1 : BitVec 32 := BitVec.ofNat 32 (i 1).val
  let c256_i32_367 : BitVec 32 := 256#32
  let v1040 : BitVec 32 := Scalar.muli arg1 c256_i32_367
  let v1041 : BitVec 32 := v1040
  let v1062 : Index := Scalar.indexCast v1041
  ![v1061.toNat, v1062.toNat]
@[reducible] def k0_t3_loop : Scf.Loop 32 :=
  let c0_i32_389 : BitVec 32 := 0#32
  let c56_i32 : BitVec 32 := 56#32
  let v1075 : BitVec 32 := Scalar.addi c0_i32_389 c56_i32
  let c1_i32_390 : BitVec 32 := 1#32
  ⟨c0_i32_389, v1075, c1_i32_390⟩
def k0_mult5 (k0_t3 : Fin k0_t3_loop.trips) : BitVec 32 :=
  let c0_i32_389 : BitVec 32 := 0#32
  let c1_i32_390 : BitVec 32 := 1#32
  let arg25 : BitVec 32 := Scf.iv c0_i32_389 c1_i32_390 k0_t3
  let c32_i32_404 : BitVec 32 := 32#32
  let v1090 : BitVec 32 := Scalar.muli arg25 c32_i32_404
  v1090
def k0_off9 (k0_t3 : Fin k0_t3_loop.trips) : Fin 2 → Nat :=
  let c0_i32_389 : BitVec 32 := 0#32
  let c1_i32_390 : BitVec 32 := 1#32
  let arg25 : BitVec 32 := Scf.iv c0_i32_389 c1_i32_390 k0_t3
  let c32_i32_404 : BitVec 32 := 32#32
  let v1090 : BitVec 32 := Scalar.muli arg25 c32_i32_404
  let v1091 : BitVec 32 := v1090
  let v1092 : Index := Scalar.indexCast v1091
  let c0_405 : Index := 0#32
  ![v1092.toNat, 0]
def k0_off10 (k0_t3 : Fin k0_t3_loop.trips) : Fin 2 → Nat :=
  let c0_i32_389 : BitVec 32 := 0#32
  let c1_i32_390 : BitVec 32 := 1#32
  let arg25 : BitVec 32 := Scf.iv c0_i32_389 c1_i32_390 k0_t3
  let c32_i32_404 : BitVec 32 := 32#32
  let v1090 : BitVec 32 := Scalar.muli arg25 c32_i32_404
  let v1091 : BitVec 32 := v1090
  let v1098 : Index := Scalar.indexCast v1091
  let c0_407 : Index := 0#32
  ![v1098.toNat, 0]
@[reducible] def k0_t4_loop : Scf.Loop 32 :=
  let c0_i32_395 : BitVec 32 := 0#32
  let c56_i32_396 : BitVec 32 := 56#32
  let v1084 : BitVec 32 := Scalar.addi c0_i32_395 c56_i32_396
  let c1_i32_397 : BitVec 32 := 1#32
  ⟨c0_i32_395, v1084, c1_i32_397⟩
def k0_mult6 (k0_t4 : Fin k0_t4_loop.trips) : BitVec 32 :=
  let c0_i32_395 : BitVec 32 := 0#32
  let c1_i32_397 : BitVec 32 := 1#32
  let arg25 : BitVec 32 := Scf.iv c0_i32_395 c1_i32_397 k0_t4
  let c32_i32_404 : BitVec 32 := 32#32
  let v1090 : BitVec 32 := Scalar.muli arg25 c32_i32_404
  v1090
def k0_off11 (k0_t4 : Fin k0_t4_loop.trips) : Fin 2 → Nat :=
  let c0_i32_395 : BitVec 32 := 0#32
  let c1_i32_397 : BitVec 32 := 1#32
  let arg25 : BitVec 32 := Scf.iv c0_i32_395 c1_i32_397 k0_t4
  let c32_i32_404 : BitVec 32 := 32#32
  let v1090 : BitVec 32 := Scalar.muli arg25 c32_i32_404
  let v1091 : BitVec 32 := v1090
  let v1092 : Index := Scalar.indexCast v1091
  let c0_405 : Index := 0#32
  ![v1092.toNat, 0]
def k0_off12 (k0_t4 : Fin k0_t4_loop.trips) : Fin 3 → Nat :=
  let c0_439 : Index := 0#32
  let c0_i32_395 : BitVec 32 := 0#32
  let c1_i32_397 : BitVec 32 := 1#32
  let arg25 : BitVec 32 := Scf.iv c0_i32_395 c1_i32_397 k0_t4
  let v1188 : Index := Scalar.indexCast arg25
  let c0_440 : Index := 0#32
  ![0, v1188.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S12 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x2560 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S12x2048 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2560x1792 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1792 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1792 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S12x2560 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S12x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S12x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x1792 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x56x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x2560 .fp8e4m3 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 1 → Memref sig .tc .vmem S12x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]
-- ==== ReferenceIdeal.lean ====
abbrev S12x2048x2560 : Shape := ⟨3, ![12, 2048, 2560]⟩
abbrev S12 : Shape := ⟨1, ![12]⟩
abbrev S12x2048 : Shape := ⟨2, ![12, 2048]⟩
abbrev S2560 : Shape := ⟨1, ![2560]⟩
abbrev S1 : Shape := ⟨1, ![1]⟩
abbrev S2560x1792 : Shape := ⟨2, ![2560, 1792]⟩
abbrev S1792 : Shape := ⟨1, ![1792]⟩
abbrev S12x1x2560 : Shape := ⟨3, ![12, 1, 2560]⟩
abbrev S12x2560 : Shape := ⟨2, ![12, 2560]⟩
abbrev S_ : Shape := ⟨0, ![]⟩
abbrev S12x1 : Shape := ⟨2, ![12, 1]⟩
abbrev S2048 : Shape := ⟨1, ![2048]⟩
abbrev S1x2048 : Shape := ⟨2, ![1, 2048]⟩
abbrev S12x1x2048 : Shape := ⟨3, ![12, 1, 2048]⟩
abbrev S1x2048x1 : Shape := ⟨3, ![1, 2048, 1]⟩
abbrev S12x2048x2048 : Shape := ⟨3, ![12, 2048, 2048]⟩
abbrev S12x2047x2560 : Shape := ⟨3, ![12, 2047, 2560]⟩
abbrev S12x1x1 : Shape := ⟨3, ![12, 1, 1]⟩
abbrev S1x1x1792 : Shape := ⟨3, ![1, 1, 1792]⟩
abbrev S12x2048x1792 : Shape := ⟨3, ![12, 2048, 1792]⟩
abbrev S12x56x2047 : Shape := ⟨3, ![12, 56, 2047]⟩
abbrev S12x2048x1 : Shape := ⟨3, ![12, 2048, 1]⟩
abbrev S12x2048x254 : Shape := ⟨3, ![12, 2048, 254]⟩
abbrev S12x2048x56x32 : Shape := ⟨4, ![12, 2048, 56, 32]⟩
abbrev S12x2048x56 : Shape := ⟨3, ![12, 2048, 56]⟩
abbrev S12x2048x56x1 : Shape := ⟨4, ![12, 2048, 56, 1]⟩
abbrev S12x2048x56x254 : Shape := ⟨4, ![12, 2048, 56, 254]⟩
abbrev S12x2047x56 : Shape := ⟨3, ![12, 2047, 56]⟩

abbrev nBuf : Space → Nat
  | .hbm => 68
  | .vmem => 9
  | .smem => 0
  | _ => 0

abbrev bufTy : (tb : Table) → Fin (tcTables nBuf tb) → BufTy
  | .hbm, ⟨0, _⟩ => ⟨S12x2048x2560, .bf16⟩
  | .hbm, ⟨1, _⟩ => ⟨S12, .i32⟩
  | .hbm, ⟨2, _⟩ => ⟨S12x2048, .i32⟩
  | .hbm, ⟨3, _⟩ => ⟨S2560, .f32⟩
  | .hbm, ⟨4, _⟩ => ⟨S1, .f32⟩
  | .hbm, ⟨5, _⟩ => ⟨S2560x1792, .fp8e4m3⟩
  | .hbm, ⟨6, _⟩ => ⟨S1792, .f32⟩
  | .hbm, ⟨7, _⟩ => ⟨S1792, .f32⟩
  | .hbm, ⟨8, _⟩ => ⟨S12x1x2560, .bf16⟩
  | .hbm, ⟨9, _⟩ => ⟨S12x2560, .bf16⟩
  | .hbm, ⟨10, _⟩ => ⟨S12x2560, .f32⟩
  | .hbm, ⟨11, _⟩ => ⟨S12x2560, .f32⟩
  | .hbm, ⟨12, _⟩ => ⟨S_, .f32⟩
  | .hbm, ⟨13, _⟩ => ⟨S12, .f32⟩
  | .hbm, ⟨14, _⟩ => ⟨S12x1, .f32⟩
  | .hbm, ⟨15, _⟩ => ⟨S12x1, .f32⟩
  | .hbm, ⟨16, _⟩ => ⟨S_, .f32⟩
  | .hbm, ⟨17, _⟩ => ⟨S12x1, .f32⟩
  | .hbm, ⟨18, _⟩ => ⟨S12x1, .f32⟩
  | .hbm, ⟨19, _⟩ => ⟨S12x2560, .f32⟩
  | .hbm, ⟨20, _⟩ => ⟨S12x2560, .f32⟩
  | .hbm, ⟨21, _⟩ => ⟨S2048, .i32⟩
  | .hbm, ⟨22, _⟩ => ⟨S1x2048, .i32⟩
  | .hbm, ⟨23, _⟩ => ⟨S_, .i32⟩
  | .hbm, ⟨24, _⟩ => ⟨S1x2048, .i32⟩
  | .hbm, ⟨25, _⟩ => ⟨S1x2048, .i1⟩
  | .hbm, ⟨26, _⟩ => ⟨S12x1, .i32⟩
  | .hbm, ⟨27, _⟩ => ⟨S12x2048, .i32⟩
  | .hbm, ⟨28, _⟩ => ⟨S12x2048, .i32⟩
  | .hbm, ⟨29, _⟩ => ⟨S12x2048, .i1⟩
  | .hbm, ⟨30, _⟩ => ⟨S12x2048, .i1⟩
  | .hbm, ⟨31, _⟩ => ⟨S12x2048, .i1⟩
  | .hbm, ⟨32, _⟩ => ⟨S12x2048x2560, .f32⟩
  | .hbm, ⟨33, _⟩ => ⟨S12x2048, .f32⟩
  | .hbm, ⟨34, _⟩ => ⟨S_, .f32⟩
  | .hbm, ⟨35, _⟩ => ⟨S12x2048, .f32⟩
  | .hbm, ⟨36, _⟩ => ⟨S12x2048, .f32⟩
  | .hbm, ⟨37, _⟩ => ⟨S_, .f32⟩
  | .hbm, ⟨38, _⟩ => ⟨S12x2048, .f32⟩
  | .hbm, ⟨39, _⟩ => ⟨S12x2048, .f32⟩
  | .hbm, ⟨40, _⟩ => ⟨S_, .f32⟩
  | .hbm, ⟨41, _⟩ => ⟨S_, .f32⟩
  | .hbm, ⟨42, _⟩ => ⟨S12x2048, .f32⟩
  | .hbm, ⟨43, _⟩ => ⟨S12x2048, .f32⟩
  | .hbm, ⟨44, _⟩ => ⟨S2048, .i32⟩
  | .hbm, ⟨45, _⟩ => ⟨S12x1x2048, .i32⟩
  | .hbm, ⟨46, _⟩ => ⟨S1x2048x1, .i32⟩
  | .hbm, ⟨47, _⟩ => ⟨S12x2048x2048, .i32⟩
  | .hbm, ⟨48, _⟩ => ⟨S12x2048x2048, .i32⟩
  | .hbm, ⟨49, _⟩ => ⟨S12x2048x2048, .i1⟩
  | .hbm, ⟨50, _⟩ => ⟨S12x1x2048, .f32⟩
  | .hbm, ⟨51, _⟩ => ⟨S_, .f32⟩
  | .hbm, ⟨52, _⟩ => ⟨S_, .f32⟩
  | .hbm, ⟨53, _⟩ => ⟨S12x2048x2048, .f32⟩
  | .hbm, ⟨54, _⟩ => ⟨S12x2048x2048, .f32⟩
  | .hbm, ⟨55, _⟩ => ⟨S12x2048x2048, .f32⟩
  | .hbm, ⟨56, _⟩ => ⟨S_, .f32⟩
  | .hbm, ⟨57, _⟩ => ⟨S12x2048, .f32⟩
  | .hbm, ⟨58, _⟩ => ⟨S12x2047x2560, .bf16⟩
  | .hbm, ⟨59, _⟩ => ⟨S_, .bf16⟩
  | .hbm, ⟨60, _⟩ => ⟨S12x2048x2560, .bf16⟩
  | .hbm, ⟨61, _⟩ => ⟨S12x1x1, .i32⟩
  | .hbm, ⟨62, _⟩ => ⟨S1x1x1792, .f32⟩
  | .hbm, ⟨63, _⟩ => ⟨S1x1x1792, .f32⟩
  | .hbm, ⟨64, _⟩ => ⟨S12x2048x1792, .fp8e4m3⟩
  | .hbm, ⟨65, _⟩ => ⟨S12x56x2047, .f32⟩
  | .hbm, ⟨66, _⟩ => ⟨S12x2048x2560, .fp8e4m3⟩
  | .hbm, ⟨67, _⟩ => ⟨S12x2048, .f32⟩
  | .local _ .vmem, ⟨0, _⟩ => ⟨S12x1x1, .i32⟩
  | .local _ .vmem, ⟨1, _⟩ => ⟨S12x2048x2560, .bf16⟩
  | .local _ .vmem, ⟨2, _⟩ => ⟨S2560x1792, .fp8e4m3⟩
  | .local _ .vmem, ⟨3, _⟩ => ⟨S1x1x1792, .f32⟩
  | .local _ .vmem, ⟨4, _⟩ => ⟨S1x1x1792, .f32⟩
  | .local _ .vmem, ⟨5, _⟩ => ⟨S12x2048x1792, .fp8e4m3⟩
  | .local _ .vmem, ⟨6, _⟩ => ⟨S12x56x2047, .f32⟩
  | .local _ .vmem, ⟨7, _⟩ => ⟨S12x2048x2560, .fp8e4m3⟩
  | .local _ .vmem, ⟨8, _⟩ => ⟨S12x2048, .f32⟩
  | _, _ => ⟨S12x2048x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call0_cst : Ref sig .tc := ⟨.hbm, 37, rfl⟩
abbrev main_call0_v0 : Ref sig .tc := ⟨.hbm, 38, rfl⟩
abbrev main_v26 : Ref sig .tc := ⟨.hbm, 39, rfl⟩
abbrev main_cst_1 : Ref sig .tc := ⟨.hbm, 40, rfl⟩
abbrev main_call1_v0 : Ref sig .tc := ⟨.hbm, 41, rfl⟩
abbrev main_call1_v1 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_2 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v35 : Ref sig .tc := ⟨.hbm, 55, rfl⟩
abbrev main_cst_3 : Ref sig .tc := ⟨.hbm, 56, rfl⟩
abbrev main_v36 : Ref sig .tc := ⟨.hbm, 57, rfl⟩
abbrev main_v37 : Ref sig .tc := ⟨.hbm, 58, rfl⟩
abbrev main_cst_4 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42_0 : Ref sig .tc := ⟨.hbm, 64, rfl⟩
abbrev main_v42_1 : Ref sig .tc := ⟨.hbm, 65, rfl⟩
abbrev main_v42_2 : Ref sig .tc := ⟨.hbm, 66, rfl⟩
abbrev main_v42_3 : Ref sig .tc := ⟨.hbm, 67, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S12x1x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x2048x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2560x1792 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1x1792 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1x1792 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12x2048x1792 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12x56x2047 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12x2048x2560 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.KernelFrame.lean ====
/-
  The kernel's frame. The body is run once by the symbolic executor at any contents of its staging and scratch
  buffers; the nine input windows are left as they were found and nothing is said of the seven output windows. The launch is
  the library's for windows of which two read the same array.
-/
module

public import proofs.«01_k».proof.Proof.Gen.Kernel.Frame
public import proofs.«01_k».proof.Proof.Gen.Kernel.Skeleton
public import proofs.«01_k».proof.Proof.Gen.Kernel.Loops
public import Idealize.ShloMosaic.Lib.Pipeline.Frame
public import Idealize.ShloMosaic.Lib.Tactic

@[expose] public section

set_option maxRecDepth 16384

noncomputable section

namespace Cert.Kernel.Frames

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

set_option maxHeartbeats 8000000 in
/-- The body's triple, for any continuation: the inputs come back as they were, everything else at some contents. -/
theorem kernelRun (c : Dev nD) (i : grid0.Coords) (arg2 : Memref sig .tc .smem S12 .i32) (harg2 : arg2.IsWhole) (arg3 : Memref sig .tc .smem S1 .f32) (harg3 : arg3.IsWhole) (arg4 : Memref sig .tc .vmem S1x256x2560 .bf16) (harg4 : arg4.IsWhole) (arg5 : Memref sig .tc .vmem S1x16x2560 .bf16) (harg5 : arg5.IsWhole) (arg6 : Memref sig .tc .vmem S12x2048 .i32) (harg6 : arg6.IsWhole) (arg7 : Memref sig .tc .vmem S1x2560 .f32) (harg7 : arg7.IsWhole) (arg8 : Memref sig .tc .vmem S2560x1792 .fp8e4m3) (harg8 : arg8.IsWhole) (arg9 : Memref sig .tc .vmem S1x1792 .f32) (harg9 : arg9.IsWhole) (arg10 : Memref sig .tc .vmem S1x1792 .f32) (harg10 : arg10.IsWhole) (arg11 : Memref sig .tc .vmem S12x2560 .f32) (harg11 : arg11.IsWhole) (arg12 : Memref sig .tc .vmem S12x2048 .f32) (harg12 : arg12.IsWhole) (arg13 : Memref sig .tc .vmem S12x2048 .f32) (harg13 : arg13.IsWhole) (arg14 : Memref sig .tc .vmem S1x256x1792 .fp8e4m3) (harg14 : arg14.IsWhole) (arg15 : Memref sig .tc .vmem S1x56x256 .f32) (harg15 : arg15.IsWhole) (arg16 : Memref sig .tc .vmem S1x256x2560 .fp8e4m3) (harg16 : arg16.IsWhole) (arg17 : Memref sig .tc .vmem S12x2048 .f32) (harg17 : arg17.IsWhole) (arg18 : Memref sig .tc .vmem S1792x2560 .fp8e4m3) (harg18 : arg18.IsWhole) (arg19 : Memref sig .tc .vmem S1792x128 .f32) (harg19 : arg19.IsWhole) (arg20 : Memref sig .tc .vmem S1792x128 .f32) (harg20 : arg20.IsWhole) (arg21 : Memref sig .tc .vmem S288x2560 .fp8e4m3) (harg21 : arg21.IsWhole) (arg22 : Memref sig .tc .vmem S288x128 .f32) (harg22 : arg22.IsWhole) (arg23 : Memref sig .tc .vmem S1792x256 .f32) (harg23 : arg23.IsWhole) (arg24 : Memref sig .tc .vmem S1792x256 .fp8e4m3) (harg24 : arg24.IsWhole)
    (x2 : Vec F S12 .i32) (x3 : Vec F S1 .f32) (x4 : Vec F S1x256x2560 .bf16) (x5 : Vec F S1x16x2560 .bf16) (x6 : Vec F S12x2048 .i32) (x7 : Vec F S1x2560 .f32) (x8 : Vec F S2560x1792 .fp8e4m3) (x9 : Vec F S1x1792 .f32) (x10 : Vec F S1x1792 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)) -∗ K ⟨⟩))
      ⊢ wp frame (wpE (defs₀ (F := F)) Variants.none c none) Set.univ
          (cc0_bge_heads i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0_bge_heads_eq_skeleton]; unfold cc0_bge_heads_skel
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, Hk⟩
  sl_exec
  by_cases hB : kernelRun.sl.v1045 c i arg2 f2 = 1#1
  · sl_exec
    by_cases hD : kernelRun.sl.v1054 c i arg2 f2 = 1#1
    all_goals
      sl_exec
      sl_step
      iapply Hk
      isplitl [H2]
      · iexists _; isplitr; swap; · iexact H2
        ipureintro; exact h2
      isplitl [H3]
      · iexists _; isplitr; swap; · iexact H3
        ipureintro; exact h3
      isplitl [H4]
      · iexists _; isplitr; swap; · iexact H4
        ipureintro; exact h4
      isplitl [H5]
      · iexists _; isplitr; swap; · iexact H5
        ipureintro; exact h5
      isplitl [H6]
      · iexists _; isplitr; swap; · iexact H6
        ipureintro; exact h6
      isplitl [H7]
      · iexists _; isplitr; swap; · iexact H7
        ipureintro; exact h7
      isplitl [H8]
      · iexists _; isplitr; swap; · iexact H8
        ipureintro; exact h8
      isplitl [H9]
      · iexists _; isplitr; swap; · iexact H9
        ipureintro; exact h9
      isplitl [H10]
      · iexists _; isplitr; swap; · iexact H10
        ipureintro; exact h10
      isplitl [H11]
      · iexists _, _; isplitr; swap; · iexact H11
        ipureintro; rfl
      isplitl [H12]
      · iexists _, _; isplitr; swap; · iexact H12
        ipureintro; rfl
      isplitl [H13]
      · iexists _, _; isplitr; swap; · iexact H13
        ipureintro; rfl
      isplitl [H14]
      · iexists _, _; isplitr; swap; · iexact H14
        ipureintro; rfl
      isplitl [H15]
      · iexists _, _; isplitr; swap; · iexact H15
        ipureintro; rfl
      isplitl [H16]
      · iexists _, _; isplitr; swap; · iexact H16
        ipureintro; rfl
      isplitl [H17]
      · iexists _, _; isplitr; swap; · iexact H17
        ipureintro; rfl
      isplitl [H18]
      · iexists _, _; isplitr; swap; · iexact H18
        ipureintro; rfl
      isplitl [H19]
      · iexists _, _; isplitr; swap; · iexact H19
        ipureintro; rfl
      isplitl [H20]
      · iexists _, _; isplitr; swap; · iexact H20
        ipureintro; rfl
      isplitl [H21]
      · iexists _, _; isplitr; swap; · iexact H21
        ipureintro; rfl
      isplitl [H22]
      · iexists _, _; isplitr; swap; · iexact H22
        ipureintro; rfl
      isplitl [H23]
      · iexists _, _; isplitr; swap; · iexact H23
        ipureintro; rfl
      iexists _, _; isplitr; swap; · iexact H24
      ipureintro; rfl

  · sl_exec
    by_cases hD : kernelRun.sl.v1054_1 c i arg2 f2 = 1#1
    all_goals
      sl_exec
      sl_step
      iapply Hk
      isplitl [H2]
      · iexists _; isplitr; swap; · iexact H2
        ipureintro; exact h2
      isplitl [H3]
      · iexists _; isplitr; swap; · iexact H3
        ipureintro; exact h3
      isplitl [H4]
      · iexists _; isplitr; swap; · iexact H4
        ipureintro; exact h4
      isplitl [H5]
      · iexists _; isplitr; swap; · iexact H5
        ipureintro; exact h5
      isplitl [H6]
      · iexists _; isplitr; swap; · iexact H6
        ipureintro; exact h6
      isplitl [H7]
      · iexists _; isplitr; swap; · iexact H7
        ipureintro; exact h7
      isplitl [H8]
      · iexists _; isplitr; swap; · iexact H8
        ipureintro; exact h8
      isplitl [H9]
      · iexists _; isplitr; swap; · iexact H9
        ipureintro; exact h9
      isplitl [H10]
      · iexists _; isplitr; swap; · iexact H10
        ipureintro; exact h10
      isplitl [H11]
      · iexists _, _; isplitr; swap; · iexact H11
        ipureintro; rfl
      isplitl [H12]
      · iexists _, _; isplitr; swap; · iexact H12
        ipureintro; rfl
      isplitl [H13]
      · iexists _, _; isplitr; swap; · iexact H13
        ipureintro; rfl
      isplitl [H14]
      · iexists _, _; isplitr; swap; · iexact H14
        ipureintro; rfl
      isplitl [H15]
      · iexists _, _; isplitr; swap; · iexact H15
        ipureintro; rfl
      isplitl [H16]
      · iexists _, _; isplitr; swap; · iexact H16
        ipureintro; rfl
      isplitl [H17]
      · iexists _, _; isplitr; swap; · iexact H17
        ipureintro; rfl
      isplitl [H18]
      · iexists _, _; isplitr; swap; · iexact H18
        ipureintro; rfl
      isplitl [H19]
      · iexists _, _; isplitr; swap; · iexact H19
        ipureintro; rfl
      isplitl [H20]
      · iexists _, _; isplitr; swap; · iexact H20
        ipureintro; rfl
      isplitl [H21]
      · iexists _, _; isplitr; swap; · iexact H21
        ipureintro; rfl
      isplitl [H22]
      · iexists _, _; isplitr; swap; · iexact H22
        ipureintro; rfl
      isplitl [H23]
      · iexists _, _; isplitr; swap; · iexact H23
        ipureintro; rfl
      iexists _, _; isplitr; swap; · iexact H24
      ipureintro; rfl

variable (m : (ℓ : Loc nD τ sig) → Buf (Elt F) ℓ) (ρ : Dev nD → PrngReg)

/-- The class invariant: every scratch buffer at some contents, the generator register at some state. -/
theorem PhiA_eq (c : Dev nD) :
    (Pipeline.ΦA (Val := Elt F) (U := UR sig nD τ) spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d)) ∗ (∃ r, prngReg c r)) := by
  unfold Pipeline.ΦA; rw [scopedRest0_eq]; simp only [owns_whole]

/-- What a window may be left at: an input as it was found, an output at anything. -/
def after0 : (w : Fin cfg0.W) → Fin cfg0.N → (Y X : (cfg0.win w).block.Idx → Elt F (cfg0.win w).elt) → Prop :=
  fun w _ Y X => (cfg0.win w).isOut = false → X = Y

/-- The proof data: the arrays as the region finds them, the relation `after0`, the class invariant, nothing owed. -/
def rdat (c : Dev nD) : Pipeline.RDat τ (Elt F) Unit ℕ (UR sig nD τ) ℕ cfg0 c where
  A w := V m c (Pipeline.arrRef spec0 w)
  after := after0
  Φ _ := Pipeline.ΦA spec0 c
  q w := Pipeline.shareOf spec0 w
  owed _ := 0

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The body at a point, its buffers spelled out. -/
theorem sound_body (c : Dev nD) (t : Fin cfg0.N) (Y : (w : Fin cfg0.W) → (cfg0.win w).block.Idx → Elt F (cfg0.win w).elt) :
    iprop((rdat m c).Φ t.castSucc ∗ (rdat m c).owesAt () t.castSucc
        ∗ owns (c : Thread nD τ) (win0_0.stage (cfg0.slots t 0)) fullShare (Y 0) ∗ owns (c : Thread nD τ) (win0_1.stage (cfg0.slots t 1)) fullShare (Y 1) ∗ owns (c : Thread nD τ) (win0_2.stage (cfg0.slots t 2)) fullShare (Y 2) ∗ owns (c : Thread nD τ) (win0_3.stage (cfg0.slots t 3)) fullShare (Y 3) ∗ owns (c : Thread nD τ) (win0_4.stage (cfg0.slots t 4)) fullShare (Y 4) ∗ owns (c : Thread nD τ) (win0_5.stage (cfg0.slots t 5)) fullShare (Y 5) ∗ owns (c : Thread nD τ) (win0_6.stage (cfg0.slots t 6)) fullShare (Y 6) ∗ owns (c : Thread nD τ) (win0_7.stage (cfg0.slots t 7)) fullShare (Y 7) ∗ owns (c : Thread nD τ) (win0_8.stage (cfg0.slots t 8)) fullShare (Y 8) ∗ owns (c : Thread nD τ) (win0_9.stage (cfg0.slots t 9)) fullShare (Y 9) ∗ owns (c : Thread nD τ) (win0_10.stage (cfg0.slots t 10)) fullShare (Y 10) ∗ owns (c : Thread nD τ) (win0_11.stage (cfg0.slots t 11)) fullShare (Y 11) ∗ owns (c : Thread nD τ) (win0_12.stage (cfg0.slots t 12)) fullShare (Y 12) ∗ owns (c : Thread nD τ) (win0_13.stage (cfg0.slots t 13)) fullShare (Y 13) ∗ owns (c : Thread nD τ) (win0_14.stage (cfg0.slots t 14)) fullShare (Y 14) ∗ owns (c : Thread nD τ) (win0_15.stage (cfg0.slots t 15)) fullShare (Y 15))
      ⊢ wp frame (wpE (defs₀ (F := F)) Variants.none c none) Set.univ (bodyAt0 t) fun _ =>
        iprop((rdat m c).Φ t.succ ∗ (rdat m c).owesAt () t.succ
          ∗ (∃ X, ⌜after0 0 t (Y 0) X⌝ ∗ owns (c : Thread nD τ) (win0_0.stage (cfg0.slots t 0)) fullShare X) ∗ (∃ X, ⌜after0 1 t (Y 1) X⌝ ∗ owns (c : Thread nD τ) (win0_1.stage (cfg0.slots t 1)) fullShare X) ∗ (∃ X, ⌜after0 2 t (Y 2) X⌝ ∗ owns (c : Thread nD τ) (win0_2.stage (cfg0.slots t 2)) fullShare X) ∗ (∃ X, ⌜after0 3 t (Y 3) X⌝ ∗ owns (c : Thread nD τ) (win0_3.stage (cfg0.slots t 3)) fullShare X) ∗ (∃ X, ⌜after0 4 t (Y 4) X⌝ ∗ owns (c : Thread nD τ) (win0_4.stage (cfg0.slots t 4)) fullShare X) ∗ (∃ X, ⌜after0 5 t (Y 5) X⌝ ∗ owns (c : Thread nD τ) (win0_5.stage (cfg0.slots t 5)) fullShare X) ∗ (∃ X, ⌜after0 6 t (Y 6) X⌝ ∗ owns (c : Thread nD τ) (win0_6.stage (cfg0.slots t 6)) fullShare X) ∗ (∃ X, ⌜after0 7 t (Y 7) X⌝ ∗ owns (c : Thread nD τ) (win0_7.stage (cfg0.slots t 7)) fullShare X) ∗ (∃ X, ⌜after0 8 t (Y 8) X⌝ ∗ owns (c : Thread nD τ) (win0_8.stage (cfg0.slots t 8)) fullShare X) ∗ (∃ X, ⌜after0 9 t (Y 9) X⌝ ∗ owns (c : Thread nD τ) (win0_9.stage (cfg0.slots t 9)) fullShare X) ∗ (∃ X, ⌜after0 10 t (Y 10) X⌝ ∗ owns (c : Thread nD τ) (win0_10.stage (cfg0.slots t 10)) fullShare X) ∗ (∃ X, ⌜after0 11 t (Y 11) X⌝ ∗ owns (c : Thread nD τ) (win0_11.stage (cfg0.slots t 11)) fullShare X) ∗ (∃ X, ⌜after0 12 t (Y 12) X⌝ ∗ owns (c : Thread nD τ) (win0_12.stage (cfg0.slots t 12)) fullShare X) ∗ (∃ X, ⌜after0 13 t (Y 13) X⌝ ∗ owns (c : Thread nD τ) (win0_13.stage (cfg0.slots t 13)) fullShare X) ∗ (∃ X, ⌜after0 14 t (Y 14) X⌝ ∗ owns (c : Thread nD τ) (win0_14.stage (cfg0.slots t 14)) fullShare X) ∗ (∃ X, ⌜after0 15 t (Y 15) X⌝ ∗ owns (c : Thread nD τ) (win0_15.stage (cfg0.slots t 15)) fullShare X)) := by
  unfold bodyAt0
  rw [show (rdat m c).Φ t.succ = (rdat m c).Φ t.castSucc from rfl,
    show (rdat m c).owesAt () t.succ = (rdat m c).owesAt () t.castSucc from rfl,
    show (rdat m c).Φ t.castSucc = Pipeline.ΦA spec0 c from rfl, PhiA_eq]
  iintro ⟨⟨⟨S0, S1, S2, S3, S4, S5, S6⟩, Hg⟩, HO, W0, W1, W2, W3, W4, W5, W6, W7, W8, W9, W10, W11, W12, W13, W14, W15⟩
  iapply (kernelRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Y 0) (Y 1) (Y 2) (Y 3) (Y 4) (Y 5) (Y 6) (Y 7) (Y 8) _)
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexists _; iexact W9
  isplitl [W10]; · iexists _; iexact W10
  isplitl [W11]; · iexists _; iexact W11
  isplitl [W12]; · iexists _; iexact W12
  isplitl [W13]; · iexists _; iexact W13
  isplitl [W14]; · iexists _; iexact W14
  isplitl [W15]; · iexists _; iexact W15
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨W0, W1, W2, W3, W4, W5, W6, W7, W8, W9, W10, W11, W12, W13, W14, W15, S0, S1, S2, S3, S4, S5, S6⟩
  isplitl [S0 S1 S2 S3 S4 S5 S6 Hg]
  · isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    iexact Hg
  isplitl [HO]; · iexact HO
  isplitl [W0]
  · iexists _; isplitr; swap; · iexact W0
    ipureintro; exact fun _ => rfl
  isplitl [W1]
  · iexists _; isplitr; swap; · iexact W1
    ipureintro; exact fun _ => rfl
  isplitl [W2]
  · iexists _; isplitr; swap; · iexact W2
    ipureintro; exact fun _ => rfl
  isplitl [W3]
  · iexists _; isplitr; swap; · iexact W3
    ipureintro; exact fun _ => rfl
  isplitl [W4]
  · iexists _; isplitr; swap; · iexact W4
    ipureintro; exact fun _ => rfl
  isplitl [W5]
  · iexists _; isplitr; swap; · iexact W5
    ipureintro; exact fun _ => rfl
  isplitl [W6]
  · iexists _; isplitr; swap; · iexact W6
    ipureintro; exact fun _ => rfl
  isplitl [W7]
  · iexists _; isplitr; swap; · iexact W7
    ipureintro; exact fun _ => rfl
  isplitl [W8]
  · iexists _; isplitr; swap; · iexact W8
    ipureintro; exact fun _ => rfl
  isplitl [W9]
  · icases W9 with ⟨%d, W9⟩
    iexists d; isplitr; swap; · iexact W9
    ipureintro; exact fun h => absurd h (by decide)
  isplitl [W10]
  · icases W10 with ⟨%d, W10⟩
    iexists d; isplitr; swap; · iexact W10
    ipureintro; exact fun h => absurd h (by decide)
  isplitl [W11]
  · icases W11 with ⟨%d, W11⟩
    iexists d; isplitr; swap; · iexact W11
    ipureintro; exact fun h => absurd h (by decide)
  isplitl [W12]
  · icases W12 with ⟨%d, W12⟩
    iexists d; isplitr; swap; · iexact W12
    ipureintro; exact fun h => absurd h (by decide)
  isplitl [W13]
  · icases W13 with ⟨%d, W13⟩
    iexists d; isplitr; swap; · iexact W13
    ipureintro; exact fun h => absurd h (by decide)
  isplitl [W14]
  · icases W14 with ⟨%d, W14⟩
    iexists d; isplitr; swap; · iexact W14
    ipureintro; exact fun h => absurd h (by decide)
  icases W15 with ⟨%d, W15⟩
  iexists d; isplitr; swap; · iexact W15
  ipureintro; exact fun h => absurd h (by decide)

/-- The library's body obligation. -/
theorem body_obligation (c : Dev nD) : (rdat m c).BodyObligation (defs₀ (F := F)) Variants.none () Set.univ := fun t Y _ => by
  rw [bigSep_W0, bigSep_W0, defs₀_row]
  exact triple_restated (sound_body m c t Y) rfl .rfl fun _ => .rfl

-- the launch theorem's implicit arguments are found by unifying its conclusion with this statement, which unifies only
-- when unification may unfold plain definitions in a metavariable's type
set_option backward.isDefEq.respectTransparency.types false in
/-- From any memory with zero counters every weakly fair execution of @main terminates, with every argument array as at launch. -/
theorem run_main :
    θ_run defs (onTc (τ := τ) (main (F := F))) (s₀ m ρ)
      (fun r => Pipeline.RDat.FramePost (cfgs 0) (rdat m) (V m) r ∧ r.2.sem = fun _ => 0) :=
  Pipeline.RDat.θ_run_frame_track_shared (Q' := _) cfgs (0 : Fin 1) launch₀0 defs₀ Variants.none (rdat m) m ρ main
    (body_obligation m) (fun _ _ _ => rfl) (fun _ _ => rfl) (V m) (hmain m Variants.none) (fun _ _ => rfl)
    (fun _ => .rfl) (fun _ => .rfl)

/-- THE FRAME: every execution terminates, the eight argument arrays end as they began, and every semaphore counter is zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun r h => ⟨fun c => ⟨(h.1.arr_in c 3 rfl).trans (V_main_arg0 m c),
      (h.1.arr_in c 0 rfl).trans (V_main_arg1 m c),
      (h.1.arr_in c 4 rfl).trans (V_main_arg2 m c),
      ((h.1 c).2 main_arg3 (Pipeline.mem_restRefs_of main_arg3 (by decide) (by decide))).trans (V_main_arg3 m c),
      (h.1.arr_in c 1 rfl).trans (V_main_arg4 m c),
      (h.1.arr_in c 6 rfl).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c)⟩, h.2⟩) (run_main m ρ)

end Cert.Kernel.Frames

end
-- ==== Proof.KernelIdealFrame.lean ====
/-
  The kernel's frame. The body is run once by the symbolic executor at any contents of its staging and scratch
  buffers; the nine input windows are left as they were found and nothing is said of the seven output windows. The launch is
  the library's for windows of which two read the same array.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Tactic

@[expose] public section

set_option maxRecDepth 16384

noncomputable section

namespace Cert.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

set_option maxHeartbeats 8000000 in
/-- The body's triple, for any continuation: the inputs come back as they were, everything else at some contents. -/
theorem kernelRun (c : Dev nD) (i : grid0.Coords) (arg2 : Memref sig .tc .smem S12 .i32) (harg2 : arg2.IsWhole) (arg3 : Memref sig .tc .smem S1 .f32) (harg3 : arg3.IsWhole) (arg4 : Memref sig .tc .vmem S1x256x2560 .bf16) (harg4 : arg4.IsWhole) (arg5 : Memref sig .tc .vmem S1x16x2560 .bf16) (harg5 : arg5.IsWhole) (arg6 : Memref sig .tc .vmem S12x2048 .i32) (harg6 : arg6.IsWhole) (arg7 : Memref sig .tc .vmem S1x2560 .f32) (harg7 : arg7.IsWhole) (arg8 : Memref sig .tc .vmem S2560x1792 .fp8e4m3) (harg8 : arg8.IsWhole) (arg9 : Memref sig .tc .vmem S1x1792 .f32) (harg9 : arg9.IsWhole) (arg10 : Memref sig .tc .vmem S1x1792 .f32) (harg10 : arg10.IsWhole) (arg11 : Memref sig .tc .vmem S12x2560 .f32) (harg11 : arg11.IsWhole) (arg12 : Memref sig .tc .vmem S12x2048 .f32) (harg12 : arg12.IsWhole) (arg13 : Memref sig .tc .vmem S12x2048 .f32) (harg13 : arg13.IsWhole) (arg14 : Memref sig .tc .vmem S1x256x1792 .fp8e4m3) (harg14 : arg14.IsWhole) (arg15 : Memref sig .tc .vmem S1x56x256 .f32) (harg15 : arg15.IsWhole) (arg16 : Memref sig .tc .vmem S1x256x2560 .fp8e4m3) (harg16 : arg16.IsWhole) (arg17 : Memref sig .tc .vmem S12x2048 .f32) (harg17 : arg17.IsWhole) (arg18 : Memref sig .tc .vmem S1792x2560 .fp8e4m3) (harg18 : arg18.IsWhole) (arg19 : Memref sig .tc .vmem S1792x128 .f32) (harg19 : arg19.IsWhole) (arg20 : Memref sig .tc .vmem S1792x128 .f32) (harg20 : arg20.IsWhole) (arg21 : Memref sig .tc .vmem S288x2560 .fp8e4m3) (harg21 : arg21.IsWhole) (arg22 : Memref sig .tc .vmem S288x128 .f32) (harg22 : arg22.IsWhole) (arg23 : Memref sig .tc .vmem S1792x256 .f32) (harg23 : arg23.IsWhole) (arg24 : Memref sig .tc .vmem S1792x256 .fp8e4m3) (harg24 : arg24.IsWhole)
    (x2 : Vec F S12 .i32) (x3 : Vec F S1 .f32) (x4 : Vec F S1x256x2560 .bf16) (x5 : Vec F S1x16x2560 .bf16) (x6 : Vec F S12x2048 .i32) (x7 : Vec F S1x2560 .f32) (x8 : Vec F S2560x1792 .fp8e4m3) (x9 : Vec F S1x1792 .f32) (x10 : Vec F S1x1792 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)) -∗ K ⟨⟩))
      ⊢ wp frame (wpE (defs₀ (F := F)) Variants.none c none) Set.univ
          (cc0_bge_heads i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0_bge_heads_eq_skeleton]; unfold cc0_bge_heads_skel
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, Hk⟩
  sl_exec
  by_cases hB : kernelRun.sl.v1045 c i arg2 f2 = 1#1
  · sl_exec
    by_cases hD : kernelRun.sl.v1054 c i arg2 f2 = 1#1
    all_goals
      sl_exec
      sl_step
      iapply Hk
      isplitl [H2]
      · iexists _; isplitr; swap; · iexact H2
        ipureintro; exact h2
      isplitl [H3]
      · iexists _; isplitr; swap; · iexact H3
        ipureintro; exact h3
      isplitl [H4]
      · iexists _; isplitr; swap; · iexact H4
        ipureintro; exact h4
      isplitl [H5]
      · iexists _; isplitr; swap; · iexact H5
        ipureintro; exact h5
      isplitl [H6]
      · iexists _; isplitr; swap; · iexact H6
        ipureintro; exact h6
      isplitl [H7]
      · iexists _; isplitr; swap; · iexact H7
        ipureintro; exact h7
      isplitl [H8]
      · iexists _; isplitr; swap; · iexact H8
        ipureintro; exact h8
      isplitl [H9]
      · iexists _; isplitr; swap; · iexact H9
        ipureintro; exact h9
      isplitl [H10]
      · iexists _; isplitr; swap; · iexact H10
        ipureintro; exact h10
      isplitl [H11]
      · iexists _, _; isplitr; swap; · iexact H11
        ipureintro; rfl
      isplitl [H12]
      · iexists _, _; isplitr; swap; · iexact H12
        ipureintro; rfl
      isplitl [H13]
      · iexists _, _; isplitr; swap; · iexact H13
        ipureintro; rfl
      isplitl [H14]
      · iexists _, _; isplitr; swap; · iexact H14
        ipureintro; rfl
      isplitl [H15]
      · iexists _, _; isplitr; swap; · iexact H15
        ipureintro; rfl
      isplitl [H16]
      · iexists _, _; isplitr; swap; · iexact H16
        ipureintro; rfl
      isplitl [H17]
      · iexists _, _; isplitr; swap; · iexact H17
        ipureintro; rfl
      isplitl [H18]
      · iexists _, _; isplitr; swap; · iexact H18
        ipureintro; rfl
      isplitl [H19]
      · iexists _, _; isplitr; swap; · iexact H19
        ipureintro; rfl
      isplitl [H20]
      · iexists _, _; isplitr; swap; · iexact H20
        ipureintro; rfl
      isplitl [H21]
      · iexists _, _; isplitr; swap; · iexact H21
        ipureintro; rfl
      isplitl [H22]
      · iexists _, _; isplitr; swap; · iexact H22
        ipureintro; rfl
      isplitl [H23]
      · iexists _, _; isplitr; swap; · iexact H23
        ipureintro; rfl
      iexists _, _; isplitr; swap; · iexact H24
      ipureintro; rfl

  · sl_exec
    by_cases hD : kernelRun.sl.v1054_1 c i arg2 f2 = 1#1
    all_goals
      sl_exec
      sl_step
      iapply Hk
      isplitl [H2]
      · iexists _; isplitr; swap; · iexact H2
        ipureintro; exact h2
      isplitl [H3]
      · iexists _; isplitr; swap; · iexact H3
        ipureintro; exact h3
      isplitl [H4]
      · iexists _; isplitr; swap; · iexact H4
        ipureintro; exact h4
      isplitl [H5]
      · iexists _; isplitr; swap; · iexact H5
        ipureintro; exact h5
      isplitl [H6]
      · iexists _; isplitr; swap; · iexact H6
        ipureintro; exact h6
      isplitl [H7]
      · iexists _; isplitr; swap; · iexact H7
        ipureintro; exact h7
      isplitl [H8]
      · iexists _; isplitr; swap; · iexact H8
        ipureintro; exact h8
      isplitl [H9]
      · iexists _; isplitr; swap; · iexact H9
        ipureintro; exact h9
      isplitl [H10]
      · iexists _; isplitr; swap; · iexact H10
        ipureintro; exact h10
      isplitl [H11]
      · iexists _, _; isplitr; swap; · iexact H11
        ipureintro; rfl
      isplitl [H12]
      · iexists _, _; isplitr; swap; · iexact H12
        ipureintro; rfl
      isplitl [H13]
      · iexists _, _; isplitr; swap; · iexact H13
        ipureintro; rfl
      isplitl [H14]
      · iexists _, _; isplitr; swap; · iexact H14
        ipureintro; rfl
      isplitl [H15]
      · iexists _, _; isplitr; swap; · iexact H15
        ipureintro; rfl
      isplitl [H16]
      · iexists _, _; isplitr; swap; · iexact H16
        ipureintro; rfl
      isplitl [H17]
      · iexists _, _; isplitr; swap; · iexact H17
        ipureintro; rfl
      isplitl [H18]
      · iexists _, _; isplitr; swap; · iexact H18
        ipureintro; rfl
      isplitl [H19]
      · iexists _, _; isplitr; swap; · iexact H19
        ipureintro; rfl
      isplitl [H20]
      · iexists _, _; isplitr; swap; · iexact H20
        ipureintro; rfl
      isplitl [H21]
      · iexists _, _; isplitr; swap; · iexact H21
        ipureintro; rfl
      isplitl [H22]
      · iexists _, _; isplitr; swap; · iexact H22
        ipureintro; rfl
      isplitl [H23]
      · iexists _, _; isplitr; swap; · iexact H23
        ipureintro; rfl
      iexists _, _; isplitr; swap; · iexact H24
      ipureintro; rfl

variable (m : (ℓ : Loc nD τ sig) → Buf (Elt F) ℓ) (ρ : Dev nD → PrngReg)

/-- The class invariant: every scratch buffer at some contents, the generator register at some state. -/
theorem PhiA_eq (c : Dev nD) :
    (Pipeline.ΦA (Val := Elt F) (U := UR sig nD τ) spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d)) ∗ (∃ r, prngReg c r)) := by
  unfold Pipeline.ΦA; rw [scopedRest0_eq]; simp only [owns_whole]

/-- What a window may be left at: an input as it was found, an output at anything. -/
def after0 : (w : Fin cfg0.W) → Fin cfg0.N → (Y X : (cfg0.win w).block.Idx → Elt F (cfg0.win w).elt) → Prop :=
  fun w _ Y X => (cfg0.win w).isOut = false → X = Y

/-- The proof data: the arrays as the region finds them, the relation `after0`, the class invariant, nothing owed. -/
def rdat (c : Dev nD) : Pipeline.RDat τ (Elt F) Unit ℕ (UR sig nD τ) ℕ cfg0 c where
  A w := V m c (Pipeline.arrRef spec0 w)
  after := after0
  Φ _ := Pipeline.ΦA spec0 c
  q w := Pipeline.shareOf spec0 w
  owed _ := 0

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The body at a point, its buffers spelled out. -/
theorem sound_body (c : Dev nD) (t : Fin cfg0.N) (Y : (w : Fin cfg0.W) → (cfg0.win w).block.Idx → Elt F (cfg0.win w).elt) :
    iprop((rdat m c).Φ t.castSucc ∗ (rdat m c).owesAt () t.castSucc
        ∗ owns (c : Thread nD τ) (win0_0.stage (cfg0.slots t 0)) fullShare (Y 0) ∗ owns (c : Thread nD τ) (win0_1.stage (cfg0.slots t 1)) fullShare (Y 1) ∗ owns (c : Thread nD τ) (win0_2.stage (cfg0.slots t 2)) fullShare (Y 2) ∗ owns (c : Thread nD τ) (win0_3.stage (cfg0.slots t 3)) fullShare (Y 3) ∗ owns (c : Thread nD τ) (win0_4.stage (cfg0.slots t 4)) fullShare (Y 4) ∗ owns (c : Thread nD τ) (win0_5.stage (cfg0.slots t 5)) fullShare (Y 5) ∗ owns (c : Thread nD τ) (win0_6.stage (cfg0.slots t 6)) fullShare (Y 6) ∗ owns (c : Thread nD τ) (win0_7.stage (cfg0.slots t 7)) fullShare (Y 7) ∗ owns (c : Thread nD τ) (win0_8.stage (cfg0.slots t 8)) fullShare (Y 8) ∗ owns (c : Thread nD τ) (win0_9.stage (cfg0.slots t 9)) fullShare (Y 9) ∗ owns (c : Thread nD τ) (win0_10.stage (cfg0.slots t 10)) fullShare (Y 10) ∗ owns (c : Thread nD τ) (win0_11.stage (cfg0.slots t 11)) fullShare (Y 11) ∗ owns (c : Thread nD τ) (win0_12.stage (cfg0.slots t 12)) fullShare (Y 12) ∗ owns (c : Thread nD τ) (win0_13.stage (cfg0.slots t 13)) fullShare (Y 13) ∗ owns (c : Thread nD τ) (win0_14.stage (cfg0.slots t 14)) fullShare (Y 14) ∗ owns (c : Thread nD τ) (win0_15.stage (cfg0.slots t 15)) fullShare (Y 15))
      ⊢ wp frame (wpE (defs₀ (F := F)) Variants.none c none) Set.univ (bodyAt0 t) fun _ =>
        iprop((rdat m c).Φ t.succ ∗ (rdat m c).owesAt () t.succ
          ∗ (∃ X, ⌜after0 0 t (Y 0) X⌝ ∗ owns (c : Thread nD τ) (win0_0.stage (cfg0.slots t 0)) fullShare X) ∗ (∃ X, ⌜after0 1 t (Y 1) X⌝ ∗ owns (c : Thread nD τ) (win0_1.stage (cfg0.slots t 1)) fullShare X) ∗ (∃ X, ⌜after0 2 t (Y 2) X⌝ ∗ owns (c : Thread nD τ) (win0_2.stage (cfg0.slots t 2)) fullShare X) ∗ (∃ X, ⌜after0 3 t (Y 3) X⌝ ∗ owns (c : Thread nD τ) (win0_3.stage (cfg0.slots t 3)) fullShare X) ∗ (∃ X, ⌜after0 4 t (Y 4) X⌝ ∗ owns (c : Thread nD τ) (win0_4.stage (cfg0.slots t 4)) fullShare X) ∗ (∃ X, ⌜after0 5 t (Y 5) X⌝ ∗ owns (c : Thread nD τ) (win0_5.stage (cfg0.slots t 5)) fullShare X) ∗ (∃ X, ⌜after0 6 t (Y 6) X⌝ ∗ owns (c : Thread nD τ) (win0_6.stage (cfg0.slots t 6)) fullShare X) ∗ (∃ X, ⌜after0 7 t (Y 7) X⌝ ∗ owns (c : Thread nD τ) (win0_7.stage (cfg0.slots t 7)) fullShare X) ∗ (∃ X, ⌜after0 8 t (Y 8) X⌝ ∗ owns (c : Thread nD τ) (win0_8.stage (cfg0.slots t 8)) fullShare X) ∗ (∃ X, ⌜after0 9 t (Y 9) X⌝ ∗ owns (c : Thread nD τ) (win0_9.stage (cfg0.slots t 9)) fullShare X) ∗ (∃ X, ⌜after0 10 t (Y 10) X⌝ ∗ owns (c : Thread nD τ) (win0_10.stage (cfg0.slots t 10)) fullShare X) ∗ (∃ X, ⌜after0 11 t (Y 11) X⌝ ∗ owns (c : Thread nD τ) (win0_11.stage (cfg0.slots t 11)) fullShare X) ∗ (∃ X, ⌜after0 12 t (Y 12) X⌝ ∗ owns (c : Thread nD τ) (win0_12.stage (cfg0.slots t 12)) fullShare X) ∗ (∃ X, ⌜after0 13 t (Y 13) X⌝ ∗ owns (c : Thread nD τ) (win0_13.stage (cfg0.slots t 13)) fullShare X) ∗ (∃ X, ⌜after0 14 t (Y 14) X⌝ ∗ owns (c : Thread nD τ) (win0_14.stage (cfg0.slots t 14)) fullShare X) ∗ (∃ X, ⌜after0 15 t (Y 15) X⌝ ∗ owns (c : Thread nD τ) (win0_15.stage (cfg0.slots t 15)) fullShare X)) := by
  unfold bodyAt0
  rw [show (rdat m c).Φ t.succ = (rdat m c).Φ t.castSucc from rfl,
    show (rdat m c).owesAt () t.succ = (rdat m c).owesAt () t.castSucc from rfl,
    show (rdat m c).Φ t.castSucc = Pipeline.ΦA spec0 c from rfl, PhiA_eq]
  iintro ⟨⟨⟨S0, S1, S2, S3, S4, S5, S6⟩, Hg⟩, HO, W0, W1, W2, W3, W4, W5, W6, W7, W8, W9, W10, W11, W12, W13, W14, W15⟩
  iapply (kernelRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Y 0) (Y 1) (Y 2) (Y 3) (Y 4) (Y 5) (Y 6) (Y 7) (Y 8) _)
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexists _; iexact W9
  isplitl [W10]; · iexists _; iexact W10
  isplitl [W11]; · iexists _; iexact W11
  isplitl [W12]; · iexists _; iexact W12
  isplitl [W13]; · iexists _; iexact W13
  isplitl [W14]; · iexists _; iexact W14
  isplitl [W15]; · iexists _; iexact W15
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨W0, W1, W2, W3, W4, W5, W6, W7, W8, W9, W10, W11, W12, W13, W14, W15, S0, S1, S2, S3, S4, S5, S6⟩
  isplitl [S0 S1 S2 S3 S4 S5 S6 Hg]
  · isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    iexact Hg
  isplitl [HO]; · iexact HO
  isplitl [W0]
  · iexists _; isplitr; swap; · iexact W0
    ipureintro; exact fun _ => rfl
  isplitl [W1]
  · iexists _; isplitr; swap; · iexact W1
    ipureintro; exact fun _ => rfl
  isplitl [W2]
  · iexists _; isplitr; swap; · iexact W2
    ipureintro; exact fun _ => rfl
  isplitl [W3]
  · iexists _; isplitr; swap; · iexact W3
    ipureintro; exact fun _ => rfl
  isplitl [W4]
  · iexists _; isplitr; swap; · iexact W4
    ipureintro; exact fun _ => rfl
  isplitl [W5]
  · iexists _; isplitr; swap; · iexact W5
    ipureintro; exact fun _ => rfl
  isplitl [W6]
  · iexists _; isplitr; swap; · iexact W6
    ipureintro; exact fun _ => rfl
  isplitl [W7]
  · iexists _; isplitr; swap; · iexact W7
    ipureintro; exact fun _ => rfl
  isplitl [W8]
  · iexists _; isplitr; swap; · iexact W8
    ipureintro; exact fun _ => rfl
  isplitl [W9]
  · icases W9 with ⟨%d, W9⟩
    iexists d; isplitr; swap; · iexact W9
    ipureintro; exact fun h => absurd h (by decide)
  isplitl [W10]
  · icases W10 with ⟨%d, W10⟩
    iexists d; isplitr; swap; · iexact W10
    ipureintro; exact fun h => absurd h (by decide)
  isplitl [W11]
  · icases W11 with ⟨%d, W11⟩
    iexists d; isplitr; swap; · iexact W11
    ipureintro; exact fun h => absurd h (by decide)
  isplitl [W12]
  · icases W12 with ⟨%d, W12⟩
    iexists d; isplitr; swap; · iexact W12
    ipureintro; exact fun h => absurd h (by decide)
  isplitl [W13]
  · icases W13 with ⟨%d, W13⟩
    iexists d; isplitr; swap; · iexact W13
    ipureintro; exact fun h => absurd h (by decide)
  isplitl [W14]
  · icases W14 with ⟨%d, W14⟩
    iexists d; isplitr; swap; · iexact W14
    ipureintro; exact fun h => absurd h (by decide)
  icases W15 with ⟨%d, W15⟩
  iexists d; isplitr; swap; · iexact W15
  ipureintro; exact fun h => absurd h (by decide)

/-- The library's body obligation. -/
theorem body_obligation (c : Dev nD) : (rdat m c).BodyObligation (defs₀ (F := F)) Variants.none () Set.univ := fun t Y _ => by
  rw [bigSep_W0, bigSep_W0, defs₀_row]
  exact triple_restated (sound_body m c t Y) rfl .rfl fun _ => .rfl

-- the launch theorem's implicit arguments are found by unifying its conclusion with this statement, which unifies only
-- when unification may unfold plain definitions in a metavariable's type
set_option backward.isDefEq.respectTransparency.types false in
/-- From any memory with zero counters every weakly fair execution of @main terminates, with every argument array as at launch. -/
theorem run_main :
    θ_run defs (onTc (τ := τ) (main (F := F))) (s₀ m ρ)
      (fun r => Pipeline.RDat.FramePost (cfgs 0) (rdat m) (V m) r ∧ r.2.sem = fun _ => 0) :=
  Pipeline.RDat.θ_run_frame_track_shared (Q' := _) cfgs (0 : Fin 1) launch₀0 defs₀ Variants.none (rdat m) m ρ main
    (body_obligation m) (fun _ _ _ => rfl) (fun _ _ => rfl) (V m) (hmain m Variants.none) (fun _ _ => rfl)
    (fun _ => .rfl) (fun _ => .rfl)

/-- THE FRAME: every execution terminates, the eight argument arrays end as they began, and every semaphore counter is zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun r h => ⟨fun c => ⟨(h.1.arr_in c 3 rfl).trans (V_main_arg0 m c),
      (h.1.arr_in c 0 rfl).trans (V_main_arg1 m c),
      (h.1.arr_in c 4 rfl).trans (V_main_arg2 m c),
      ((h.1 c).2 main_arg3 (Pipeline.mem_restRefs_of main_arg3 (by decide) (by decide))).trans (V_main_arg3 m c),
      (h.1.arr_in c 1 rfl).trans (V_main_arg4 m c),
      (h.1.arr_in c 6 rfl).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c)⟩, h.2⟩) (run_main m ρ)

end Cert.KernelIdeal.Frames

end
-- ==== Proof.Quant.lean ====
/-
  The quantiser over the extended reals. The kernel finds a power-of-two scale by a binary search over the exponent field
  of its single-precision word and divides by multiplying with the inverse power; the reference takes the least power of
  two above the bound and divides. Below 2^126 the two agree.
-/
module

public import Idealize.ShloMosaic.Lib.IdealHost
public import Idealize.ShloMosaic.Lib.ValueIdx
public import Idealize.ShloMosaic.PureOps.Ideal.Laws

@[expose] public section

set_option maxRecDepth 16384

noncomputable section

namespace Cert.Quant

open Idealize.ShloMosaic

/-- One step of the kernel's search: take the bit `k` of the field if its power is not above `q`. -/
def stepB (q : EReal) (f k : BitVec 32) : BitVec 32 :=
  Scalar.select (Ideal.cmp .oge q (Ideal.ofBits .f32 (IntOp.shli .vector (IntOp.addi f k) 23#32))) (IntOp.addi f k) f

/-- The exponent field the kernel's search ends with. -/
def fieldB (q : EReal) : BitVec 32 :=
  stepB q (stepB q (stepB q (stepB q (stepB q (stepB q (stepB q (stepB q 0#32 128#32) 64#32) 32#32) 16#32) 8#32) 4#32) 2#32) 1#32

/-- The field, an empty one replaced by that of one half. -/
def fieldC (q : EReal) : BitVec 32 :=
  Scalar.select (IntOp.cmpi .eq (fieldB q) 0#32) 126#32 (fieldB q)

/-- The kernel's scale. -/
def scaleK (q : EReal) : EReal := Ideal.ofBits .f32 (IntOp.shli .vector (IntOp.addi (fieldC q) 1#32) 23#32)

/-- The kernel's inverse scale. -/
def invK (q : EReal) : EReal := Ideal.ofBits .f32 (IntOp.shli .vector (IntOp.subi 253#32 (fieldC q)) 23#32)

/-- The reference's power of two number `k`. -/
def power (k : ℕ) : EReal := Ideal.exp2 ((((BitVec.ofNat 32 k).toInt : ℝ) : EReal) - (Ideal.ofBits .f32 0x42FA0000#32 : EReal))

/-- The reference's scale: one for a bound below the normal numbers, else the least power of two above it. -/
def scaleR (q : EReal) : EReal :=
  Scalar.select (Ideal.cmp .olt q (Ideal.ofBits .f32 0x00800000#32)) (Ideal.ofBits .f32 0x3F800000#32)
    ((Finset.univ : Finset (Fin 254)).fold min (Ideal.ofBits .f32 0x7F800000#32)
      fun k => Scalar.select (Ideal.cmp .ogt (power k.val) q) (power k.val) (Ideal.ofBits .f32 0x7F800000#32))

/-- The value a field stands for. -/
def thr (n : ℕ) : EReal := if n = 0 then 0 else if n < 255 then (((2 : ℝ) ^ ((n : ℤ) - 127) : ℝ) : EReal) else ⊤

theorem bits_field : ∀ n : Fin 256, ((BitVec.ofNat 32 n.val <<< 23).extractLsb' 31 1 == 1#1) = false
    ∧ ((BitVec.ofNat 32 n.val <<< 23).extractLsb' 23 8).toNat = n.val
    ∧ ((BitVec.ofNat 32 n.val <<< 23).extractLsb' 0 23).toNat = 0 := by decide +kernel

theorem ieee_field (b : BitVec 32) (n : ℕ) (h : n ≤ 255) (h1 : (b.extractLsb' 31 1 == 1#1) = false)
    (h2 : (b.extractLsb' 23 8).toNat = n) (h3 : (b.extractLsb' 0 23).toNat = 0) : Ideal.ieee 8 23 b = thr n := by
  unfold Ideal.ieee thr
  dsimp only
  rw [h1, h2, h3]
  by_cases h0 : n = 0
  · subst h0; simp
  · by_cases h255 : n < 255
    · rw [if_neg (by omega), if_neg h0, if_neg h0, if_pos h255]
      congr 1
      have h2' : (2 : ℝ) ≠ 0 := by norm_num
      rw [show ((n : ℤ) - 127) = 23 + ((n : ℤ) - (2 ^ (8 - 1) - 1) - 23) by norm_num, zpow_add₀ h2']
      norm_num
    · have : n = 255 := by omega
      subst this; simp

theorem shl_eq (x : BitVec 32) : IntOp.shli .vector x 23#32 = x <<< 23 := by
  unfold IntOp.shli
  rw [if_pos (by decide)]
  rfl

theorem ofBits_shl (n : ℕ) (h : n ≤ 255) :
    Ideal.ofBits .f32 (IntOp.shli .vector (BitVec.ofNat 32 n) 23#32) = thr n := by
  obtain ⟨h1, h2, h3⟩ := bits_field ⟨n, by omega⟩
  rw [shl_eq]
  exact ieee_field _ n h h1 h2 h3

theorem thr_zero : thr 0 = 0 := rfl

theorem thr_pos {n : ℕ} (h : n ≠ 0) : 0 < thr n := by
  unfold thr
  rw [if_neg h]
  split
  · exact EReal.coe_pos.mpr (by positivity)
  · exact EReal.coe_lt_top 0

theorem thr_mono {a b : ℕ} (h : a ≤ b) : thr a ≤ thr b := by
  unfold thr
  by_cases ha : a = 0
  · rw [if_pos ha]
    exact if ha' : b = 0 then by rw [if_pos ha'] else by
      have := (thr_pos ha').le
      unfold thr at this
      exact this
  · rw [if_neg ha, if_neg (by omega : ¬ b = 0)]
    by_cases hb : b < 255
    · rw [if_pos hb, if_pos (by omega)]
      exact EReal.coe_le_coe_iff.mpr (zpow_le_zpow_right₀ (by norm_num) (by omega))
    · rw [if_neg hb]; exact le_top

theorem thr_coe {n : ℕ} (h : n ≠ 0) (h' : n < 255) : thr n = (((2 : ℝ) ^ ((n : ℤ) - 127) : ℝ) : EReal) := by
  unfold thr; rw [if_neg h, if_pos h']

theorem select_ofBool {α : Type} (p : Prop) [Decidable p] (a b : α) :
    Scalar.select (BitVec.ofBool (decide p)) a b = if p then a else b := by
  unfold Scalar.select
  by_cases h : p <;> simp [h]

/-- A step keeps the bound between the field's value and the value `2k` further. -/
theorem stepB_spec (q : EReal) (f k : ℕ) (hfk : f + 2 * k ≤ 256) (hk : 0 < k) (hlo : thr f ≤ q) (hhi : q < thr (f + 2 * k) ∨ f + 2 * k = 256) :
    ∃ f', stepB q (BitVec.ofNat 32 f) (BitVec.ofNat 32 k) = BitVec.ofNat 32 f' ∧ f' + k ≤ 256 ∧ thr f' ≤ q
      ∧ (q < thr (f' + k) ∨ f' + k = 256) := by
  have ha : IntOp.addi (BitVec.ofNat 32 f) (BitVec.ofNat 32 k) = BitVec.ofNat 32 (f + k) :=
    (BitVec.ofNat_add f k).symm
  unfold stepB
  rw [ha, ofBits_shl _ (by omega)]
  unfold Ideal.cmp
  dsimp only
  rw [select_ofBool]
  by_cases h : thr (f + k) ≤ q
  · rw [if_pos h]
    refine ⟨f + k, rfl, by omega, h, ?_⟩
    rw [show f + k + k = f + 2 * k by ring]; exact hhi
  · rw [if_neg h]
    exact ⟨f, rfl, by omega, hlo, .inl (not_le.mp h)⟩

/-- The search finds the field whose value is the greatest not above the bound. -/
theorem fieldB_spec (q : EReal) (h0 : 0 ≤ q) (h1 : q < thr 253) :
    ∃ f, fieldB q = BitVec.ofNat 32 f ∧ f ≤ 252 ∧ thr f ≤ q ∧ q < thr (f + 1) := by
  obtain ⟨f1, e1, b1, l1, u1⟩ := stepB_spec q 0 128 (by norm_num) (by norm_num) h0 (.inr rfl)
  obtain ⟨f2, e2, b2, l2, u2⟩ := stepB_spec q f1 64 (by omega) (by norm_num) l1 u1
  obtain ⟨f3, e3, b3, l3, u3⟩ := stepB_spec q f2 32 (by omega) (by norm_num) l2 u2
  obtain ⟨f4, e4, b4, l4, u4⟩ := stepB_spec q f3 16 (by omega) (by norm_num) l3 u3
  obtain ⟨f5, e5, b5, l5, u5⟩ := stepB_spec q f4 8 (by omega) (by norm_num) l4 u4
  obtain ⟨f6, e6, b6, l6, u6⟩ := stepB_spec q f5 4 (by omega) (by norm_num) l5 u5
  obtain ⟨f7, e7, b7, l7, u7⟩ := stepB_spec q f6 2 (by omega) (by norm_num) l6 u6
  obtain ⟨f8, e8, b8, l8, u8⟩ := stepB_spec q f7 1 (by omega) (by norm_num) l7 u7
  have hf : f8 ≤ 252 := by
    by_contra hc
    exact absurd (lt_of_le_of_lt ((thr_mono (by omega : 253 ≤ f8)).trans l8) h1) (lt_irrefl _)
  refine ⟨f8, ?_, hf, l8, u8.resolve_right (by omega)⟩
  unfold fieldB
  rw [e1, e2, e3, e4, e5, e6, e7, e8]

/-- The field `1 … 252` in use and the scale and inverse made of it. -/
theorem scaleK_spec (q : EReal) (h0 : 0 ≤ q) (h1 : q < thr 253) :
    ∃ f, f ≤ 252 ∧ thr f ≤ q ∧ q < thr (f + 1) ∧
      scaleK q = (((2 : ℝ) ^ (((if f = 0 then 126 else f : ℕ) : ℤ) - 126) : ℝ) : EReal)
      ∧ invK q = (((2 : ℝ) ^ (126 - ((if f = 0 then 126 else f : ℕ) : ℤ)) : ℝ) : EReal) := by
  obtain ⟨f, hf, hle, hlo, hhi⟩ := fieldB_spec q h0 h1
  refine ⟨f, hle, hlo, hhi, ?_⟩
  have hC : fieldC q = BitVec.ofNat 32 (if f = 0 then 126 else f) := by
    unfold fieldC
    rw [hf]
    unfold IntOp.cmpi
    by_cases h : f = 0
    · subst h; rfl
    · rw [if_neg h]
      have : ¬ (BitVec.ofNat 32 f = 0#32) := by
        intro hb
        have := congrArg BitVec.toNat hb
        simp at this
        omega
      have hb : BitVec.ofBool (BitVec.ofNat 32 f == 0#32) = 0#1 := by rw [beq_eq_false_iff_ne.mpr this]; rfl
      unfold Scalar.select
      dsimp only
      rw [hb, if_neg (by decide)]
  set g : ℕ := if f = 0 then 126 else f with hg
  have hg1 : 1 ≤ g ∧ g ≤ 252 := by rw [hg]; split <;> omega
  constructor
  · unfold scaleK
    rw [hC, show IntOp.addi (BitVec.ofNat 32 g) 1#32 = BitVec.ofNat 32 (g + 1) from (BitVec.ofNat_add g 1).symm,
      ofBits_shl _ (by omega), thr_coe (by omega) (by omega)]
    congr 2; push_cast; ring
  · unfold invK
    have : IntOp.subi 253#32 (BitVec.ofNat 32 g) = BitVec.ofNat 32 (253 - g) := by
      apply BitVec.eq_of_toNat_eq
      show (253#32 - BitVec.ofNat 32 g).toNat = _
      simp only [BitVec.toNat_sub, BitVec.toNat_ofNat]
      omega
    rw [hC, this, ofBits_shl _ (by omega), thr_coe (by omega) (by omega)]
    congr 2; push_cast [Nat.cast_sub (by omega : g ≤ 253)]; ring

theorem power_eq (k : ℕ) (h : k < 254) : power k = (((2 : ℝ) ^ ((k : ℤ) - 125) : ℝ) : EReal) := by
  have h125 : Ideal.ofBits .f32 0x42FA0000#32 = ((125 : ℝ) : EReal) := by
    simp [Ideal.ofBits, Ideal.ieee, -EReal.coe_mul]; norm_num
  have hk : (BitVec.ofNat 32 k).toInt = (k : ℤ) := by
    rw [BitVec.toInt_eq_toNat_of_lt (by simp; omega)]
    simp; omega
  unfold power
  rw [h125, hk]
  show Ideal.exp2 ((((k : ℤ) : ℝ) : EReal) - ((125 : ℝ) : EReal)) = _
  rw [← EReal.coe_sub]
  show ((Real.rpow 2 _ : ℝ) : EReal) = _
  congr 1
  rw [Real.rpow_eq_pow, show (((k : ℤ) : ℝ) - 125) = (((k : ℤ) - 125 : ℤ) : ℝ) by push_cast; ring, Real.rpow_intCast]

/-- The reference's scale is the kernel's. -/
theorem scaleR_eq (q : EReal) (h0 : 0 ≤ q) (h1 : q < thr 253) : scaleR q = scaleK q := by
  obtain ⟨f, hle, hlo, hhi, hs, -⟩ := scaleK_spec q h0 h1
  have htop : Ideal.ofBits .f32 0x7F800000#32 = ⊤ := by simp [Ideal.ofBits, Ideal.ieee]
  have htiny : Ideal.ofBits .f32 0x00800000#32 = thr 1 := ofBits_shl 1 (by norm_num)
  rw [hs]
  unfold scaleR Ideal.cmp
  dsimp only
  rw [htop, htiny, select_ofBool]
  by_cases hf : f = 0
  · rw [hf] at hhi
    rw [if_pos hhi, if_pos hf, Ideal.ofBits_one_f32]
    norm_num
  · have h1q : thr 1 ≤ q := (thr_mono (by omega)).trans hlo
    rw [if_neg (not_lt.mpr h1q), if_neg hf]
    rw [thr_coe hf (by omega)] at hlo
    rw [thr_coe (by omega) (by omega)] at hhi
    have hp : power (f - 1) = (((2 : ℝ) ^ ((f : ℤ) - 126) : ℝ) : EReal) := by
      rw [power_eq _ (by omega)]
      congr 2; rw [Nat.cast_sub (by omega)]; push_cast; ring
    have hq : q < power (f - 1) := by
      rw [hp]; convert hhi using 3; push_cast; ring
    apply le_antisymm
    · refine (Finset.fold_min_le _).mpr (.inr ⟨⟨f - 1, by omega⟩, Finset.mem_univ _, ?_⟩)
      dsimp only
      rw [select_ofBool, if_pos hq, hp]
    · refine (Finset.le_fold_min _).mpr ⟨le_top, fun k _ => ?_⟩
      rw [select_ofBool]
      split
      · rename_i hk
        rw [power_eq _ k.isLt] at hk ⊢
        have := (EReal.coe_lt_coe_iff.mp (lt_of_le_of_lt hlo hk))
        have := (zpow_lt_zpow_iff_right₀ (by norm_num : (1 : ℝ) < 2)).mp this
        exact EReal.coe_le_coe_iff.mpr (zpow_le_zpow_right₀ (by norm_num) (by omega))
      · exact le_top

/-- Dividing by the scale is multiplying by the kernel's inverse. -/
theorem div_scaleK (q v : EReal) (h0 : 0 ≤ q) (h1 : q < thr 253) : Ideal.div v (scaleK q) = v * invK q := by
  obtain ⟨f, hle, hlo, hhi, hs, hi⟩ := scaleK_spec q h0 h1
  rw [hs, hi]
  set g : ℤ := ((if f = 0 then 126 else f : ℕ) : ℤ)
  have hpos : (0 : ℝ) < (2 : ℝ) ^ (g - 126) := by positivity
  unfold Ideal.div
  rw [if_neg (by intro h; exact hpos.ne' (EReal.coe_eq_zero.mp h)), ← EReal.coe_inv, ← zpow_neg]
  congr 4; ring

end Cert.Quant
end
-- ==== Proof.KernelIdealVec.lean ====
/-
  The kernel's row quantiser as one function of the 32 rows it is given, read element by element over the extended reals.
-/
module

public import proofs.«01_k».proof.Proof.Quant
public import proofs.«01_k».proof.Proof.Gen.KernelIdeal.Skeleton
public import Idealize.ShloMosaic.Lib.Pipeline.Value
public import Idealize.ShloMosaic.Lib.ValueIdx
public import Idealize.ShloMosaic.Lib.Pointwise

@[expose] public section

set_option maxRecDepth 16384

noncomputable section

namespace Cert.KernelIdeal.Values

open Cert.KernelIdeal Cert.KernelIdeal.Gen
open Idealize.ShloMosaic Idealize.ShloMosaic.TcCoe

section Generic

variable {F : FTy → Type} [FloatOps F] [∀ e, Nonempty (Elt F e)]

/-- One step of the search for the exponent field, elementwise. -/
def stepV {s : Shape} (q : FVec F s .f32) (f : IVec s 32) (k : BitVec 32) : IVec s 32 :=
  select (cmpf .oge q (bitcastToFloat .f32 (shli (addi f (broadcast s k)) (broadcast s 23#32)))) (addi f (broadcast s k)) f

/-- The field the eight steps end with. -/
def searchV {s : Shape} (q : FVec F s .f32) : IVec s 32 :=
  stepV q (stepV q (stepV q (stepV q (stepV q (stepV q (stepV q (stepV q (broadcast s 0#32) 128#32) 64#32) 32#32) 16#32) 8#32) 4#32) 2#32) 1#32

/-- The field, an empty one replaced by that of one half. -/
def fieldV {s : Shape} (q : FVec F s .f32) : IVec s 32 :=
  select (cmpi .eq (searchV q) (broadcast s 0#32)) (broadcast s 126#32) (searchV q)

/-- The rows' bounds: the largest magnitude over 448. -/
def boundV (v : FVec F S32x2560 .bf16) : FVec F S32x1 .f32 :=
  mulf (extf .f32 (shapeCast S32x1 (multiReduction .maximumf [1] S32 (absf v) 0xFF80#16 reduces_S32x2560_S32 (.inr rfl) rfl) shapeCasts_S32_S32x1) bitsLt_bf16_f32)
    (broadcast S32x1 (Scalar.ofBits .f32 0x3B124925#32))

/-- The codes of 32 rows. -/
def qcodeV (v : FVec F S32x2560 .bf16) : FVec F S32x2560 .fp8e4m3 :=
  shapeCast S32x2560
    (truncf .fp8e4m3
      (minimumf (broadcast S32x2560 (Scalar.truncf .bf16 bitsLt_bf16_f32 (Scalar.ofBits .f32 0x43E00000#32)))
        (maximumf (broadcast S32x2560 (Scalar.truncf .bf16 bitsLt_bf16_f32 (Scalar.ofBits .f32 0xC3E00000#32)))
          (mulf v (broadcastTo S32x2560
            (truncf .bf16 (bitcastToFloat .f32 (shli (subi (broadcast S32x1 253#32) (fieldV (boundV v))) (broadcast S32x1 23#32))) bitsLt_bf16_f32)
            broadcasts_S32x1_S32x2560))))
      bitsLt_fp8e4m3_bf16)
    shapeCasts_S32x2560_S32x2560

/-- The scales of 32 rows, each repeated along its row. -/
def qscaleV (v : FVec F S32x2560 .bf16) : FVec F S32x128 .f32 :=
  shapeCast S32x128
    (broadcastTo S32x128
      (shapeCast S32x1 (bitcastToFloat .f32 (shli (addi (fieldV (boundV v)) (broadcast S32x1 1#32)) (broadcast S32x1 23#32))) shapeCasts_S32x1_S32x1)
      broadcasts_S32x1_S32x128)
    shapeCasts_S32x128_S32x128

end Generic

/-! ## Over the extended reals -/

/-- The bits of the reciprocal of 448. -/
def C448 : EReal := Ideal.ofBits .f32 0x3B124925#32

/-- The largest magnitude of a list. -/
def amax {n : ℕ} (v : Fin n → EReal) : EReal := (Finset.univ : Finset (Fin n)).fold max ⊥ fun k => max (v k) (-(v k))

/-- A value's code. -/
def clipE (v : EReal) : EReal := min (Ideal.ofBits .f32 0x43E00000#32) (max (Ideal.ofBits .f32 0xC3E00000#32) v)

theorem stepV_apply {s : Shape} (q : FVec Ideal s .f32) (f : IVec s 32) (k : BitVec 32) (i : s.Idx) :
    stepV q f k i = Quant.stepB (q i) (f i) k := rfl

theorem searchV_apply {s : Shape} (q : FVec Ideal s .f32) (i : s.Idx) : searchV q i = Quant.fieldB (q i) := by
  unfold searchV Quant.fieldB
  simp only [stepV_apply, ValueIdx.broadcast_apply]

theorem fieldV_apply {s : Shape} (q : FVec Ideal s .f32) (i : s.Idx) : fieldV q i = Quant.fieldC (q i) := by
  unfold fieldV Quant.fieldC
  rw [← searchV_apply]
  rfl

theorem boundV_apply (v : FVec Ideal S32x2560 .bf16) (a : Fin 32) :
    boundV v (ix2 a 0) = amax (fun k => v (ix2 a k)) * C448 := by
  unfold boundV amax C448
  pointwise
  rw [show Ideal.ofBits .bf16 0xFF80#16 = ⊥ by
    simp only [Ideal.ofBits, Ideal.ieee, BitVec.reduceExtractLsb', BitVec.reduceToNat]; rfl]
  rfl

theorem qscaleV_apply (v : FVec Ideal S32x2560 .bf16) (a : Fin 32) (l : Fin 128) :
    qscaleV v (ix2 a l) = Quant.scaleK (amax (fun k => v (ix2 a k)) * C448) := by
  unfold qscaleV Quant.scaleK
  rw [← boundV_apply, ← fieldV_apply]
  pointwise

theorem qcodeV_apply (v : FVec Ideal S32x2560 .bf16) (a : Fin 32) (k : Fin 2560) :
    qcodeV v (ix2 a k) = clipE (v (ix2 a k) * Quant.invK (amax (fun k => v (ix2 a k)) * C448)) := by
  unfold qcodeV Quant.invK clipE
  rw [← boundV_apply, ← fieldV_apply]
  pointwise

end Cert.KernelIdeal.Values
end
-- ==== Proof.KernelIdealElem.lean ====
/-
  The payloads of the last two phases, element by element over the extended reals.
-/
module

public import proofs.«01_k».proof.Proof.KernelIdealVec

@[expose] public section

set_option maxRecDepth 16384

noncomputable section

namespace Cert.KernelIdeal.Values

open Cert.KernelIdeal Cert.KernelIdeal.Gen
open Idealize.ShloMosaic Idealize.ShloMosaic.TcCoe

/-- Whether lane `r` of a block holds a token: its number is below the sequence's length. -/
def okW (arg1 v1 : BitVec 32) (r : Fin 256) : BitVec 1 :=
  IntOp.cmpi .slt (IntOp.addi (IntOp.addi (IntOp.muli arg1 256#32) 1#32) (BitVec.ofNat 32 r.val)) v1

/-- The bits of the smallest length divided by. -/
def EPS : EReal := Ideal.ofBits .f32 0x2B8CBCCC#32

theorem pay28_apply (arg1 v1 : BitVec 32) (xs : FVec Ideal S1x256 .f32) (a b : Vec Ideal S32x128 .f32) (y : Vec Ideal S32x256 .f32)
    (A B : Fin 32 → EReal) (ha : ∀ j l, a (ix2 j l) = A j) (hb : ∀ j l, b (ix2 j l) = B j) (j : Fin 32) (r : Fin 256) :
    k0_pay28 arg1 v1 xs a b y (ix2 j r)
      = Scalar.select (okW arg1 v1 r) (y (ix2 j r) * xs (ix2 0 r) * A j + B j) 0 := by
  unfold k0_pay28 okW
  pointwise
  simp only [ha, hb, dite_eq_ite, ite_self]
  rfl

theorem pay30_apply (arg1 v1 : BitVec 32) (xs : FVec Ideal S1x256 .f32) (acc : FVec Ideal S8x256 .f32) (a b : Vec Ideal S32x128 .f32) (y : Vec Ideal S32x256 .f32)
    (j : Fin 8) (r : Fin 256) :
    k0_pay30 arg1 v1 xs acc a b y (ix2 j r)
      = acc (ix2 j r) + ∑ q : Fin 4, k0_pay28 arg1 v1 xs a b y (ix2 ⟨q.val * 8 + j.val, by omega⟩ r) * k0_pay28 arg1 v1 xs a b y (ix2 ⟨q.val * 8 + j.val, by omega⟩ r) := by
  unfold k0_pay30
  pointwise

theorem pay31_apply (ss : FVec Ideal S8x256 .f32) (r : Fin 256) :
    k0_pay31 ss (ix2 0 r) = Ideal.div 1 (max (Ideal.sqrt (∑ j : Fin 8, ss (ix2 j r))) EPS) := by
  unfold k0_pay31 EPS
  pointwise

theorem pay21_apply (rv : FVec Ideal S1x256 .f32) (y : Vec Ideal S32x256 .f32) (j : Fin 32) (r : Fin 256) :
    k0_pay21 rv y (ix2 j r) = y (ix2 j r) * rv (ix2 0 r) := by
  unfold k0_pay21
  pointwise

theorem pay22_apply (rv : FVec Ideal S1x256 .f32) (y : Vec Ideal S32x256 .f32) (r : Fin 256) :
    k0_pay22 rv y (ix2 0 r) = amax (fun j : Fin 32 => y (ix2 j r) * rv (ix2 0 r)) * C448 := by
  unfold k0_pay22 amax C448 k0_pay21
  pointwise
  rw [show Ideal.ofBits .f32 0xFF800000#32 = ⊥ by simp [Ideal.ofBits, Ideal.ieee]]
  rfl

theorem pay32_apply (q : FVec Ideal S1x256 .f32) (r : Fin 256) :
    k0_pay32 (F := Ideal) (fieldV q) (ix3 0 0 r) = Quant.scaleK (q (ix2 0 r)) := by
  unfold k0_pay32 Quant.scaleK
  rw [← fieldV_apply]
  pointwise

theorem pay33_apply (n : FVec Ideal S32x256 .f32) (q : FVec Ideal S1x256 .f32) (j : Fin 32) (r : Fin 256) :
    k0_pay33 n (fieldV q) (ix2 j r) = clipE (n (ix2 j r) * Quant.invK (q (ix2 0 r))) := by
  unfold k0_pay33 Quant.invK clipE
  rw [← fieldV_apply]
  pointwise

theorem pay34_apply (ct : Vec Ideal S1792x256 .fp8e4m3) (r : Fin 256) (n : Fin 1792) :
    k0_pay34 ct (ix3 0 r n) = ct (ix2 n r) := by
  unfold k0_pay34
  pointwise

theorem pay35_apply (w : Vec Ideal S2560x1792 .fp8e4m3) (n : Fin 1792) (k : Fin 2560) :
    k0_pay35 w (ix2 n k) = w (ix2 k n) := by
  unfold k0_pay35
  pointwise

theorem pay36_apply (w : Vec Ideal S1x1792 .f32) (n : Fin 1792) (l : Fin 128) :
    k0_pay36 w (ix2 n l) = w (ix2 0 n) := by
  unfold k0_pay36
  pointwise

theorem pay37_apply (w : Vec Ideal S1x1792 .f32) (n : Fin 1792) (l : Fin 128) :
    k0_pay37 w (ix2 n l) = w (ix2 0 n) := by
  unfold k0_pay37
  pointwise

theorem pay125_apply (w : Vec Ideal S256x2560 .fp8e4m3) (r : Fin 256) (k : Fin 2560) :
    k0_pay125 w (ix3 0 r k) = w (ix2 r k) := by
  unfold k0_pay125
  pointwise

theorem pay126_apply (w : Vec Ideal S256x128 .f32) (r : Fin 256) :
    k0_pay126 w (ix2 0 r) = w (ix2 r 0) := by
  unfold k0_pay126
  pointwise

theorem pay38_apply (w : Vec Ideal S1x32x2560 .bf16) (r : Fin 32) (k : Fin 2560) :
    k0_pay38 w (ix2 r k) = w (ix3 0 r k) := by
  unfold k0_pay38
  pointwise

theorem pay114_apply (w : Vec Ideal S1x16x2560 .bf16) (k : Fin 2560) :
    k0_pay114 w (ix2 0 k) = w (ix3 0 0 k) := by
  unfold k0_pay114
  pointwise

theorem pay26_apply (wt : Vec Ideal S1792x2560 .fp8e4m3) (xc : Vec Ideal S1x256x2560 .fp8e4m3) (n : Fin 1792) (r : Fin 256) :
    k0_pay26 wt xc (ix2 n r) = ∑ k : Fin 2560, wt (ix2 n k) * xc (ix3 0 r k) := by
  unfold k0_pay26
  pointwise [dot_S1792x2560_S256x2560_S1792x256_1_1_0_0_n_n]

end Cert.KernelIdeal.Values
end
-- ==== Proof.ReferenceIdealElem.lean ====
/-
  The reference's payloads, element by element over the extended reals.
-/
module

public import proofs.«01_k».proof.Proof.KernelIdealElem
public import proofs.«01_k».proof.Proof.Gen.ReferenceIdeal.Value

@[expose] public section

set_option maxRecDepth 16384

noncomputable section

namespace Cert.ReferenceIdeal.Values

open Cert.ReferenceIdeal Cert.ReferenceIdeal.Gen
open Cert.KernelIdeal.Values (amax clipE C448 EPS)
open Idealize.ShloMosaic Idealize.ShloMosaic.TcCoe

/-! Elementwise operations at an element. -/

section
variable {s : Shape} {φ : FTy} (A B : FVec Ideal s φ) (i : s.Idx)

theorem mul_at : mulf A B i = (A i * B i : EReal) := rfl
theorem div_at : divf A B i = Ideal.div (A i) (B i) := rfl
theorem add_at : addf A B i = (A i + B i : EReal) := rfl
theorem max_at : maximumf A B i = max (A i : EReal) (B i) := rfl
theorem min_at : minimumf A B i = min (A i : EReal) (B i) := rfl
theorem abs_at : absf A i = max (A i : EReal) (-(A i : EReal)) := rfl
theorem trunc_at {ψ : FTy} (h : ψ.bits < φ.bits) : truncf ψ A h i = (A i : EReal) := rfl
theorem cmp_at (p : CmpFPredicate) : cmpf p A B i = Ideal.cmp p (A i) (B i) := rfl
theorem select_at {α : Type} (c : IVec s 1) (a b : s.Idx → α) : select c a b i = Scalar.select (c i) (a i) (b i) := rfl
theorem splat_at {α : Type} (a : α) : broadcast s a i = a := rfl
theorem bits_at (v : BitVec φ.bits) : (Scalar.ofBits φ v : Ideal φ) = Ideal.ofBits φ v := rfl

end

/-! The reference's layout operations, read at an element. -/

theorem cast3 (S : FVec Ideal S12x2048 .f32) (b : Fin 12) (s : Fin 2048) :
    shapeCast S12x2048x1 S shapeCasts_S12x2048_S12x2048x1 (ix3 b s 0) = S (ix2 b s) := by
  pointwise

theorem cast3' (S : FVec Ideal S12x2048x1 .f32) (b : Fin 12) (s : Fin 2048) :
    shapeCast S12x2048 S shapeCasts_S12x2048x1_S12x2048 (ix2 b s) = S (ix3 b s 0) := by
  pointwise

theorem cast4 (S : FVec Ideal S12x2048x56 .f32) (b : Fin 12) (s : Fin 2048) (g : Fin 56) :
    shapeCast S12x2048x56x1 S shapeCasts_S12x2048x56_S12x2048x56x1 (ix4 b s g 0) = S (ix3 b s g) := by
  pointwise

theorem castX (S : FVec Ideal S12x2048x2560 .bf16) (b : Fin 12) (s : Fin 2048) (k : Fin 2560) :
    shapeCast S12x2048x2560 S shapeCasts_S12x2048x2560_S12x2048x2560 (ix3 b s k) = S (ix3 b s k) := by
  pointwise

theorem castC {α : Type} (S : S12x2048x56x32.Idx → α) (b : Fin 12) (s : Fin 2048) (n : Fin 1792) :
    shapeCast S12x2048x1792 S shapeCasts_S12x2048x56x32_S12x2048x1792 (ix3 b s n) = S (ix4 b s ⟨n.val / 32, by omega⟩ ⟨n.val % 32, by omega⟩) := by
  pointwise

theorem castB (S : Vec Ideal S1x1x1792 .f32) (n : Fin 1792) :
    shapeCast S1x1x1792 S shapeCasts_S1x1x1792_S1x1x1792 (ix3 0 0 n) = S (ix3 0 0 n) := by
  pointwise

theorem row254 (S : FVec Ideal S12x2048x1 .f32) (b : Fin 12) (s : Fin 2048) (k : Fin 254) :
    broadcastTo S12x2048x254 S broadcasts_S12x2048x1_S12x2048x254 (ix3 b s k) = S (ix3 b s 0) := by
  pointwise

theorem row2560 (S : FVec Ideal S12x2048x1 .f32) (b : Fin 12) (s : Fin 2048) (k : Fin 2560) :
    broadcastTo S12x2048x2560 S broadcasts_S12x2048x1_S12x2048x2560 (ix3 b s k) = S (ix3 b s 0) := by
  pointwise

theorem row1792 (S : FVec Ideal S12x2048x1 .f32) (b : Fin 12) (s : Fin 2048) (n : Fin 1792) :
    broadcastTo S12x2048x1792 S broadcasts_S12x2048x1_S12x2048x1792 (ix3 b s n) = S (ix3 b s 0) := by
  pointwise

theorem col1792 (S : Vec Ideal S1x1x1792 .f32) (b : Fin 12) (s : Fin 2048) (n : Fin 1792) :
    broadcastTo S12x2048x1792 S broadcasts_S1x1x1792_S12x2048x1792 (ix3 b s n) = S (ix3 0 0 n) := by
  pointwise

theorem group254 (S : FVec Ideal S12x2048x56x1 .f32) (b : Fin 12) (s : Fin 2048) (g : Fin 56) (k : Fin 254) :
    broadcastTo S12x2048x56x254 S broadcasts_S12x2048x56x1_S12x2048x56x254 (ix4 b s g k) = S (ix4 b s g 0) := by
  pointwise

theorem group32 (S : FVec Ideal S12x2048x56x1 .f32) (b : Fin 12) (s : Fin 2048) (g : Fin 56) (j : Fin 32) :
    broadcastTo S12x2048x56x32 S broadcasts_S12x2048x56x1_S12x2048x56x32 (ix4 b s g j) = S (ix4 b s g 0) := by
  pointwise

theorem max2560 (S : FVec Ideal S12x2048x2560 .f32) (b : Fin 12) (s : Fin 2048) :
    multiReduction .maximumf [2] S12x2048 S 0xFF800000#32 reduces_S12x2048x2560_S12x2048 (.inl rfl) rfl (ix2 b s)
      = (Finset.univ : Finset (Fin 2560)).fold max (Ideal.ofBits .f32 0xFF800000#32) fun k => S (ix3 b s k) := by
  pointwise

theorem max32 (S : FVec Ideal S12x2048x56x32 .f32) (b : Fin 12) (s : Fin 2048) (g : Fin 56) :
    multiReduction .maximumf [3] S12x2048x56 S 0xFF800000#32 reduces_S12x2048x56x32_S12x2048x56 (.inl rfl) rfl (ix3 b s g)
      = (Finset.univ : Finset (Fin 32)).fold max (Ideal.ofBits .f32 0xFF800000#32) fun k => S (ix4 b s g k) := by
  pointwise

theorem min254 (S : FVec Ideal S12x2048x254 .f32) (b : Fin 12) (s : Fin 2048) :
    multiReduction .minimumf [2] S12x2048 S 0x7F800000#32 reduces_S12x2048x254_S12x2048 (.inl rfl) rfl (ix2 b s)
      = (Finset.univ : Finset (Fin 254)).fold min (Ideal.ofBits .f32 0x7F800000#32) fun k => S (ix3 b s k) := by
  pointwise

theorem gmin254 (S : FVec Ideal S12x2048x56x254 .f32) (b : Fin 12) (s : Fin 2048) (g : Fin 56) :
    multiReduction .minimumf [3] S12x2048x56 S 0x7F800000#32 reduces_S12x2048x56x254_S12x2048x56 (.inl rfl) rfl (ix3 b s g)
      = (Finset.univ : Finset (Fin 254)).fold min (Ideal.ofBits .f32 0x7F800000#32) fun k => S (ix4 b s g k) := by
  pointwise

theorem powers (b : Fin 12) (s : Fin 2048) (k : Fin 254) :
    exp2 (F := Ideal) (subf (sitofp .f32 (iota .tc S12x2048x254 32 [2] iota_S12x2048x254_d2_w32)) (broadcast S12x2048x254 (Scalar.ofBits .f32 0x42FA0000#32))) (ix3 b s k)
      = Quant.power k.val := by
  unfold Quant.power
  pointwise
  rfl

theorem gpowers (b : Fin 12) (s : Fin 2048) (g : Fin 56) (k : Fin 254) :
    exp2 (F := Ideal) (subf (sitofp .f32 (iota .tc S12x2048x56x254 32 [3] iota_S12x2048x56x254_d3_w32)) (broadcast S12x2048x56x254 (Scalar.ofBits .f32 0x42FA0000#32))) (ix4 b s g k)
      = Quant.power k.val := by
  unfold Quant.power
  pointwise
  rfl

theorem neg_inf : Ideal.ofBits .f32 0xFF800000#32 = ⊥ := by simp [Ideal.ofBits, Ideal.ieee]

theorem dot1792 (C : FVec Ideal S12x2048x2560 .fp8e4m3) (w : FVec Ideal S2560x1792 .fp8e4m3) (b : Fin 12) (s : Fin 2048) (n : Fin 1792) :
    matmul dot_S12x2048x2560_S2560x1792_S12x2048x1792_2_0_01_1_n_n none C w (constant S12x2048x1792 .f32 0x00000000#32) (ix3 b s n)
      = ∑ k : Fin 2560, C (ix3 b s k) * w (ix2 k n) := by
  pointwise [dot_S12x2048x2560_S2560x1792_S12x2048x1792_2_0_01_1_n_n]

/-- The reference's scale of a bound: what its comparisons and its minimum over the powers of two come to. -/
theorem scale_at (q : FVec Ideal S12x2048x1 .f32) (b : Fin 12) (s : Fin 2048) (P : FVec Ideal S12x2048x254 .f32) (hP : ∀ k : Fin 254, P (ix3 b s k) = Quant.power k.val) :
    select (cmpf .olt q (broadcast S12x2048x1 (Scalar.ofBits .f32 0x00800000#32))) (broadcast S12x2048x1 (Scalar.ofBits .f32 0x3F800000#32)) (shapeCast S12x2048x1 (multiReduction .minimumf [2] S12x2048 (select (cmpf .ogt P (broadcastTo S12x2048x254 q broadcasts_S12x2048x1_S12x2048x254)) P (broadcast S12x2048x254 (Scalar.ofBits .f32 0x7F800000#32))) 0x7F800000#32 reduces_S12x2048x254_S12x2048 (.inl rfl) rfl) shapeCasts_S12x2048_S12x2048x1) (ix3 b s 0)
      = Quant.scaleR (q (ix3 b s 0)) := by
  unfold Quant.scaleR
  rw [select_at, cast3, min254]
  simp only [select_at, cmp_at, splat_at, hP, row254]
  simp only [bits_at]

/-- The reference's scale of a bound: what its comparisons and its minimum over the powers of two come to. -/
theorem gscale_at (q : FVec Ideal S12x2048x56x1 .f32) (b : Fin 12) (s : Fin 2048) (g : Fin 56) (P : FVec Ideal S12x2048x56x254 .f32) (hP : ∀ k : Fin 254, P (ix4 b s g k) = Quant.power k.val) :
    select (cmpf .olt q (broadcast S12x2048x56x1 (Scalar.ofBits .f32 0x00800000#32))) (broadcast S12x2048x56x1 (Scalar.ofBits .f32 0x3F800000#32)) (shapeCast S12x2048x56x1 (multiReduction .minimumf [3] S12x2048x56 (select (cmpf .ogt P (broadcastTo S12x2048x56x254 q broadcasts_S12x2048x56x1_S12x2048x56x254)) P (broadcast S12x2048x56x254 (Scalar.ofBits .f32 0x7F800000#32))) 0x7F800000#32 reduces_S12x2048x56x254_S12x2048x56 (.inl rfl) rfl) shapeCasts_S12x2048x56_S12x2048x56x1) (ix4 b s g 0)
      = Quant.scaleR (q (ix4 b s g 0)) := by
  unfold Quant.scaleR
  rw [select_at, cast4, gmin254]
  simp only [select_at, cmp_at, splat_at, hP, group254]
  simp only [bits_at]

theorem pay3_apply (x : Vec Ideal S12x2048x2560 .bf16) (b : Fin 12) (s : Fin 2048) (k : Fin 2560) :
    k0_pay3 x (ix3 b s k) = x (ix3 b s k) := by
  unfold k0_pay3
  exact castX x b s k

theorem pay4_eq (x : Vec Ideal S12x2048x2560 .bf16) :
    ∃ q, q = mulf (shapeCast S12x2048x1 (multiReduction .maximumf [2] S12x2048 (absf (k0_pay3 x)) 0xFF800000#32 reduces_S12x2048x2560_S12x2048 (.inl rfl) rfl) shapeCasts_S12x2048_S12x2048x1) (broadcast S12x2048x1 (Scalar.ofBits .f32 0x3B124925#32)) ∧ k0_pay4 x = select (cmpf .olt q (broadcast S12x2048x1 (Scalar.ofBits .f32 0x00800000#32))) (broadcast S12x2048x1 (Scalar.ofBits .f32 0x3F800000#32)) (shapeCast S12x2048x1 (multiReduction .minimumf [2] S12x2048 (select (cmpf .ogt (exp2 (F := Ideal) (subf (sitofp .f32 (iota .tc S12x2048x254 32 [2] iota_S12x2048x254_d2_w32)) (broadcast S12x2048x254 (Scalar.ofBits .f32 0x42FA0000#32)))) (broadcastTo S12x2048x254 q broadcasts_S12x2048x1_S12x2048x254)) (exp2 (F := Ideal) (subf (sitofp .f32 (iota .tc S12x2048x254 32 [2] iota_S12x2048x254_d2_w32)) (broadcast S12x2048x254 (Scalar.ofBits .f32 0x42FA0000#32)))) (broadcast S12x2048x254 (Scalar.ofBits .f32 0x7F800000#32))) 0x7F800000#32 reduces_S12x2048x254_S12x2048 (.inl rfl) rfl) shapeCasts_S12x2048_S12x2048x1) := by
  refine ⟨_, rfl, ?_⟩
  unfold k0_pay4
  rfl

theorem pay4_apply (x : Vec Ideal S12x2048x2560 .bf16) (b : Fin 12) (s : Fin 2048) :
    k0_pay4 x (ix3 b s 0) = Quant.scaleR (amax (fun k : Fin 2560 => x (ix3 b s k)) * C448) := by
  obtain ⟨q, hq, h⟩ := pay4_eq x
  rw [h, scale_at _ _ _ _ (powers b s), hq, mul_at, cast3, max2560, neg_inf]
  simp only [abs_at, pay3_apply]
  rfl

theorem pay5_apply (x : Vec Ideal S12x2048x2560 .bf16) (b : Fin 12) (s : Fin 2048) (k : Fin 2560) :
    k0_pay5 x (ix3 b s k) = clipE (Ideal.div (x (ix3 b s k)) (Quant.scaleR (amax (fun k : Fin 2560 => x (ix3 b s k)) * C448))) := by
  rw [← pay4_apply]
  unfold k0_pay5 clipE
  rw [trunc_at, min_at, max_at, div_at, row2560, pay3_apply]
  rfl

theorem pay6_apply (x : Vec Ideal S12x2048x2560 .bf16) (b : Fin 12) (s : Fin 2048) :
    k0_pay6 x (ix2 b s) = Quant.scaleR (amax (fun k : Fin 2560 => x (ix3 b s k)) * C448) := by
  rw [← pay4_apply]
  unfold k0_pay6
  exact cast3' _ b s

theorem pay7_apply (x : Vec Ideal S12x2048x2560 .bf16) (w : Vec Ideal S2560x1792 .fp8e4m3) (ws : Vec Ideal S1x1x1792 .f32) (b : Fin 12) (s : Fin 2048) (n : Fin 1792) :
    k0_pay7 x w ws (ix3 b s n) = (∑ k : Fin 2560, k0_pay5 x (ix3 b s k) * w (ix2 k n)) * k0_pay6 x (ix2 b s) * ws (ix3 0 0 n) := by
  unfold k0_pay7
  rw [mul_at, mul_at, row1792, cast3, col1792, castB, dot1792]

/-- A channel of a row before the norm: a row past the sequence's length is zero. -/
def yR (v : FVec Ideal S12x2048x1792 .f32) (bias : Vec Ideal S1x1x1792 .f32) (len : Vec Ideal S12x1x1 .i32) (b : Fin 12) (s : Fin 2048) (n : Fin 1792) : EReal :=
  Scalar.select (IntOp.cmpi .slt (IntOp.addi (BitVec.ofNat 32 s.val) 1#32) (len (ix3 b 0 0))) (v (ix3 b s n) + bias (ix3 0 0 n)) 0

/-- A channel of a row over the row's norm. -/
def nR (v : FVec Ideal S12x2048x1792 .f32) (bias : Vec Ideal S1x1x1792 .f32) (len : Vec Ideal S12x1x1 .i32) (b : Fin 12) (s : Fin 2048) (n : Fin 1792) : EReal :=
  Ideal.div (yR v bias len b s n) (max (Ideal.sqrt (∑ n : Fin 1792, yR v bias len b s n * yR v bias len b s n)) EPS)

theorem pay8_apply (v : FVec Ideal S12x2048x1792 .f32) (bias : Vec Ideal S1x1x1792 .f32) (len : Vec Ideal S12x1x1 .i32) (b : Fin 12) (s : Fin 2048) (g : Fin 56) (j : Fin 32) :
    k0_pay8 v bias len (ix4 b s g j) = nR v bias len b s ⟨g.val * 32 + j.val, by omega⟩ := by
  unfold k0_pay8 nR yR EPS
  pointwise

theorem pay9_eq (v : FVec Ideal S12x2048x1792 .f32) (bias : Vec Ideal S1x1x1792 .f32) (len : Vec Ideal S12x1x1 .i32) :
    ∃ q, q = mulf (shapeCast S12x2048x56x1 (multiReduction .maximumf [3] S12x2048x56 (absf (k0_pay8 v bias len)) 0xFF800000#32 reduces_S12x2048x56x32_S12x2048x56 (.inl rfl) rfl) shapeCasts_S12x2048x56_S12x2048x56x1) (broadcast S12x2048x56x1 (Scalar.ofBits .f32 0x3B124925#32)) ∧ k0_pay9 v bias len = select (cmpf .olt q (broadcast S12x2048x56x1 (Scalar.ofBits .f32 0x00800000#32))) (broadcast S12x2048x56x1 (Scalar.ofBits .f32 0x3F800000#32)) (shapeCast S12x2048x56x1 (multiReduction .minimumf [3] S12x2048x56 (select (cmpf .ogt (exp2 (F := Ideal) (subf (sitofp .f32 (iota .tc S12x2048x56x254 32 [3] iota_S12x2048x56x254_d3_w32)) (broadcast S12x2048x56x254 (Scalar.ofBits .f32 0x42FA0000#32)))) (broadcastTo S12x2048x56x254 q broadcasts_S12x2048x56x1_S12x2048x56x254)) (exp2 (F := Ideal) (subf (sitofp .f32 (iota .tc S12x2048x56x254 32 [3] iota_S12x2048x56x254_d3_w32)) (broadcast S12x2048x56x254 (Scalar.ofBits .f32 0x42FA0000#32)))) (broadcast S12x2048x56x254 (Scalar.ofBits .f32 0x7F800000#32))) 0x7F800000#32 reduces_S12x2048x56x254_S12x2048x56 (.inl rfl) rfl) shapeCasts_S12x2048x56_S12x2048x56x1) := by
  refine ⟨_, rfl, ?_⟩
  unfold k0_pay9
  rfl

theorem bound32 (N : FVec Ideal S12x2048x56x32 .f32) (b : Fin 12) (s : Fin 2048) (g : Fin 56) :
    (mulf (shapeCast S12x2048x56x1 (multiReduction .maximumf [3] S12x2048x56 (absf N) 0xFF800000#32 reduces_S12x2048x56x32_S12x2048x56 (.inl rfl) rfl) shapeCasts_S12x2048x56_S12x2048x56x1) (broadcast S12x2048x56x1 (Scalar.ofBits .f32 0x3B124925#32))) (ix4 b s g 0) = amax (fun j : Fin 32 => N (ix4 b s g j)) * C448 := by
  rw [mul_at, cast4, max32, neg_inf]
  simp only [abs_at]
  rfl

theorem pay9_apply (v : FVec Ideal S12x2048x1792 .f32) (bias : Vec Ideal S1x1x1792 .f32) (len : Vec Ideal S12x1x1 .i32) (b : Fin 12) (s : Fin 2048) (g : Fin 56) :
    k0_pay9 v bias len (ix4 b s g 0) = Quant.scaleR (amax (fun j : Fin 32 => k0_pay8 v bias len (ix4 b s g j)) * C448) := by
  obtain ⟨q, hq, h⟩ := pay9_eq v bias len
  rw [h, gscale_at _ _ _ _ _ (gpowers b s g), hq, bound32]

theorem pay1_apply (v : FVec Ideal S12x2048x1792 .f32) (bias : Vec Ideal S1x1x1792 .f32) (len : Vec Ideal S12x1x1 .i32) (b : Fin 12) (s : Fin 2048) (n : Fin 1792) :
    k0_pay1 (k0_pay10 v bias len) (Scalar.ofBits .f32 0xC3E00000#32) (ix3 b s n)
      = clipE (Ideal.div (k0_pay8 v bias len (ix4 b s ⟨n.val / 32, by omega⟩ ⟨n.val % 32, by omega⟩)) (k0_pay9 v bias len (ix4 b s ⟨n.val / 32, by omega⟩ 0))) := by
  unfold k0_pay1 k0_pay10 clipE
  rw [castC, trunc_at, min_at, max_at, div_at, group32]
  rfl

theorem pay2_apply (v : FVec Ideal S12x2048x56x1 .f32) (b : Fin 12) (g : Fin 56) (s : Fin 2047) :
    k0_pay2 v (ix3 b g s) = v (ix4 b ⟨s.val, by omega⟩ g 0) := by
  unfold k0_pay2
  pointwise

end Cert.ReferenceIdeal.Values

end
-- ==== Proof.ReferenceIdealRun.lean ====
/-
  The reference's run over the extended reals: its four launched results, element by element, from the arguments.
-/
module

public import proofs.«01_k».proof.Proof.ReferenceIdealElem
public import Idealize.ShloMosaic.Lib.Pipeline.ValueKit
public import Idealize.ShloMosaic.Lib.StableHlo.RunRead
public import Idealize.ShloMosaic.Lib.KernelVsHost

@[expose] public section

set_option maxRecDepth 16384

noncomputable section

namespace Cert.ReferenceIdeal.Values

open Cert.ReferenceIdeal Cert.ReferenceIdeal.Gen
open Cert.KernelIdeal.Values (amax clipE C448 EPS)
open Idealize.ShloMosaic Idealize.ShloMosaic.TcCoe Idealize.ShloMosaic.Tactic Idealize.ShloMosaic.ValueKit

variable (m : (ℓ : Loc nD τ sig) → Buf (Elt Ideal) ℓ) (c : Dev nD)

/-! The launch's operands. -/

theorem V_main_v39 : V m c main_v39 = shapeCast S12x1x1 (m ((c : Thread nD τ).loc main_arg1)) shapeCasts_S12_S12x1x1 := by
  unfold V
  after_reads_simp
  rfl

theorem V_main_v40 : V m c main_v40 = shapeCast S1x1x1792 (m ((c : Thread nD τ).loc main_arg6)) shapeCasts_S1792_S1x1x1792 := by
  unfold V
  after_reads_simp
  rfl

theorem V_main_v41 : V m c main_v41 = shapeCast S1x1x1792 (m ((c : Thread nD τ).loc main_arg7)) shapeCasts_S1792_S1x1x1792 := by
  unfold V
  after_reads_simp
  rfl

theorem V_main_v38 : ∃ v : (⟨S_, .bf16⟩ : BufTy).Contents (Elt Ideal), V m c main_v38 = pad S12x2048x2560 ![0, 0, 0] ![0, 1, 0] ![0, 0, 0]
    (extractStridedSlice S12x2047x2560 ![0, 1, 0] (m ((c : Thread nD τ).loc main_arg0)) slices_S12x2048x2560_S12x2047x2560_0_1_0) v pads_S12x2047x2560_S12x2048x2560_000_010_000 h_S_ := by
  refine ⟨?_, ?_⟩
  rotate_left
  · unfold V
    after_reads_simp
    rfl

/-- The rows the launch reads: the tokens after the first. -/
theorem V38_apply (b : Fin 12) (s : Fin 2047) (k : Fin 2560) :
    V m c main_v38 (ix3 b ⟨s.val, by omega⟩ k) = m ((c : Thread nD τ).loc main_arg0) (ix3 b ⟨s.val + 1, by omega⟩ k) := by
  obtain ⟨v, h⟩ := V_main_v38 m c
  rw [h, pad_apply_of_inside _ _ _ _ _ _ _ _ (ix3 b s k : S12x2047x2560.Idx) (fun a => by fin_cases a <;> simp)]
  pointwise
  exact congrArg (fun i => m ((c : Thread nD τ).loc main_arg0) (ix3 b i k)) (Fin.ext (Nat.add_comm _ _))

theorem rindex0 : win0_0.index t0_0 = ![0, 0, 0] := by decide +kernel
theorem rindex1 : win0_1.index t0_0 = ![0, 0, 0] := by decide +kernel
theorem rindex2 : win0_2.index t0_0 = ![0, 0] := by decide +kernel
theorem rindex3 : win0_3.index t0_0 = ![0, 0, 0] := by decide +kernel
theorem rindex4 : win0_4.index t0_0 = ![0, 0, 0] := by decide +kernel

/-! The input blocks: each is its whole array. -/

theorem iblk0 : iblk m c 0 t0_0 = V m c main_v39 := by
  blk_ext! [iblk, rindex0]
theorem iblk1 : iblk m c 1 t0_0 = V m c main_v38 := by
  blk_ext! [iblk, rindex1]
theorem iblk2 : iblk m c 2 t0_0 = m ((c : Thread nD τ).loc main_arg5) := by
  rw [← V_main_arg5 m c]
  blk_ext! [iblk, rindex2]
theorem iblk3 : iblk m c 3 t0_0 = V m c main_v40 := by
  blk_ext! [iblk, rindex3]
theorem iblk4 : iblk m c 4 t0_0 = V m c main_v41 := by
  blk_ext! [iblk, rindex4]

/-- The launch's products, with their scales. -/
abbrev accR : FVec Ideal S12x2048x1792 .f32 := k0_pay7 (V m c main_v38) (m ((c : Thread nD τ).loc main_arg5)) (V m c main_v40)

theorem arr5 : (dats m 0 c).arrAt 5 cfg0.N = k0_pay1 (k0_pay10 (accR m c) (V m c main_v41) (V m c main_v39)) (Scalar.ofBits .f32 0xC3E00000#32) := by
  refine (dats m 0 c).arrAt_eq_of_after_last 5 t0_0 (by decide +kernel) _ fun j => ?_
  blk_simp
  rw [after0_5, iblk0, iblk1, iblk2, iblk3, iblk4]
  unfold out0_5 k0_pay11
  frame_out

theorem arr6 : (dats m 0 c).arrAt 6 cfg0.N = k0_pay2 (k0_pay9 (accR m c) (V m c main_v41) (V m c main_v39)) := by
  refine (dats m 0 c).arrAt_eq_of_after_last 6 t0_0 (by decide +kernel) _ fun j => ?_
  blk_simp
  rw [after0_6, iblk0, iblk1, iblk2, iblk3, iblk4]
  unfold out0_6 k0_pay11
  frame_out

theorem arr7 : (dats m 0 c).arrAt 7 cfg0.N = k0_pay5 (V m c main_v38) := by
  refine (dats m 0 c).arrAt_eq_of_after_last 7 t0_0 (by decide +kernel) _ fun j => ?_
  blk_simp
  rw [after0_7, iblk0, iblk1, iblk2, iblk3, iblk4]
  unfold out0_7
  frame_out

theorem arr8 : (dats m 0 c).arrAt 8 cfg0.N = k0_pay6 (V m c main_v38) := by
  refine (dats m 0 c).arrAt_eq_of_after_last 8 t0_0 (by decide +kernel) _ fun j => ?_
  blk_simp
  rw [after0_8, iblk0, iblk1, iblk2, iblk3, iblk4]
  unfold out0_8
  frame_out

end Cert.ReferenceIdeal.Values

end
-- ==== Proof.KernelIdealQuant.lean ====
/-
  The body applies the row quantiser to eight blocks of 32 rows and to the rows that follow, each time written out anew.
  Here the nine copies are named as the one function.
-/
module

public import proofs.«01_k».proof.Proof.KernelIdealVec
public import proofs.«01_k».proof.Proof.KernelIdealFrame
public import Idealize.ShloMosaic.Lib.Pipeline.Value
public import Idealize.ShloMosaic.Lib.ValueIdx
public import Idealize.ShloMosaic.Lib.ValueIdxCoords

@[expose] public section

set_option maxRecDepth 16384

noncomputable section

namespace Cert.KernelIdeal.Values

open Cert.KernelIdeal Cert.KernelIdeal.Gen Cert.KernelIdeal.Frames
open Idealize.ShloMosaic Idealize.ShloMosaic.TcCoe Idealize.ShloMosaic.ValueIdx

section Generic

variable {F : FTy → Type} [FloatOps F] [∀ e, Nonempty (Elt F e)]

variable (c : Dev nD) (arg4 : Memref sig .tc .vmem S1x256x2560 .bf16) (arg5 : Memref sig .tc .vmem S1x16x2560 .bf16)
  (f4 : BufTy.Contents (Elt F) arg4.view.ty) (f5 : BufTy.Contents (Elt F) arg5.view.ty)

/-- The 32 rows of the block that begin at row `o`. -/
def rowsAt (o : ℕ) (h : ∀ a, (![0, o, 0] : Fin 3 → ℕ) a + S1x32x2560.size a ≤ S1x256x2560.size a) : FVec F S32x2560 .bf16 :=
  k0_pay38 (View.readAt (Elt F) arg4.view (Rect.unit (s := S1x256x2560) ![0, o, 0] S1x32x2560.size h).toLoadRect f4)

/-- The sixteen rows that follow the block, twice over. -/
def nextAt : FVec F S32x2560 .bf16 :=
  k0_pay114 (View.readAt (Elt F) arg5.view (Rect.unit (s := S1x16x2560) ![0, 0, 0] S1x16x2560.size inb_S1x16x2560_S1x16x2560_0_0_0).toLoadRect f5)

set_option maxHeartbeats 4000000 in
/-- The code buffer's nine stores are the quantiser's codes. -/
theorem H21_eq : kernelRun.sl.H21_9 c arg4 arg5 f4 f5 =
  [⟨Rect.unit ![256, 0] S32x2560.size inb_S288x2560_S32x2560_256_0, qcodeV (nextAt arg5 f5)⟩,
   ⟨Rect.unit ![224, 0] S32x2560.size inb_S288x2560_S32x2560_224_0, qcodeV (rowsAt arg4 f4 224 inb_S1x256x2560_S1x32x2560_0_224_0)⟩,
   ⟨Rect.unit ![192, 0] S32x2560.size inb_S288x2560_S32x2560_192_0, qcodeV (rowsAt arg4 f4 192 inb_S1x256x2560_S1x32x2560_0_192_0)⟩,
   ⟨Rect.unit ![160, 0] S32x2560.size inb_S288x2560_S32x2560_160_0, qcodeV (rowsAt arg4 f4 160 inb_S1x256x2560_S1x32x2560_0_160_0)⟩,
   ⟨Rect.unit ![128, 0] S32x2560.size inb_S288x2560_S32x2560_128_0, qcodeV (rowsAt arg4 f4 128 inb_S1x256x2560_S1x32x2560_0_128_0)⟩,
   ⟨Rect.unit ![96, 0] S32x2560.size inb_S288x2560_S32x2560_96_0, qcodeV (rowsAt arg4 f4 96 inb_S1x256x2560_S1x32x2560_0_96_0)⟩,
   ⟨Rect.unit ![64, 0] S32x2560.size inb_S288x2560_S32x2560_64_0, qcodeV (rowsAt arg4 f4 64 inb_S1x256x2560_S1x32x2560_0_64_0)⟩,
   ⟨Rect.unit ![32, 0] S32x2560.size inb_S288x2560_S32x2560_32_0, qcodeV (rowsAt arg4 f4 32 inb_S1x256x2560_S1x32x2560_0_32_0)⟩,
   ⟨Rect.unit ![0, 0] S32x2560.size inb_S288x2560_S32x2560_0_0, qcodeV (rowsAt arg4 f4 0 inb_S1x256x2560_S1x32x2560_0_0_0)⟩] := rfl

set_option maxHeartbeats 4000000 in
/-- The scale buffer's nine stores are the quantiser's scales. -/
theorem H22_eq : kernelRun.sl.H22_9 c arg4 arg5 f4 f5 =
  [⟨Rect.unit ![256, 0] S32x128.size inb_S288x128_S32x128_256_0, qscaleV (nextAt arg5 f5)⟩,
   ⟨Rect.unit ![224, 0] S32x128.size inb_S288x128_S32x128_224_0, qscaleV (rowsAt arg4 f4 224 inb_S1x256x2560_S1x32x2560_0_224_0)⟩,
   ⟨Rect.unit ![192, 0] S32x128.size inb_S288x128_S32x128_192_0, qscaleV (rowsAt arg4 f4 192 inb_S1x256x2560_S1x32x2560_0_192_0)⟩,
   ⟨Rect.unit ![160, 0] S32x128.size inb_S288x128_S32x128_160_0, qscaleV (rowsAt arg4 f4 160 inb_S1x256x2560_S1x32x2560_0_160_0)⟩,
   ⟨Rect.unit ![128, 0] S32x128.size inb_S288x128_S32x128_128_0, qscaleV (rowsAt arg4 f4 128 inb_S1x256x2560_S1x32x2560_0_128_0)⟩,
   ⟨Rect.unit ![96, 0] S32x128.size inb_S288x128_S32x128_96_0, qscaleV (rowsAt arg4 f4 96 inb_S1x256x2560_S1x32x2560_0_96_0)⟩,
   ⟨Rect.unit ![64, 0] S32x128.size inb_S288x128_S32x128_64_0, qscaleV (rowsAt arg4 f4 64 inb_S1x256x2560_S1x32x2560_0_64_0)⟩,
   ⟨Rect.unit ![32, 0] S32x128.size inb_S288x128_S32x128_32_0, qscaleV (rowsAt arg4 f4 32 inb_S1x256x2560_S1x32x2560_0_32_0)⟩,
   ⟨Rect.unit ![0, 0] S32x128.size inb_S288x128_S32x128_0_0, qscaleV (rowsAt arg4 f4 0 inb_S1x256x2560_S1x32x2560_0_0_0)⟩] := rfl

end Generic

end Cert.KernelIdeal.Values
end
-- ==== Proof.KernelIdealCodes.lean ====
/-
  The code and scale buffers at an element: row `r` of either is that of row `r` of the block, or of the rows that follow it.
-/
module

public import proofs.«01_k».proof.Proof.KernelIdealQuant
public import proofs.«01_k».proof.Proof.KernelIdealElem

@[expose] public section

set_option maxRecDepth 16384

noncomputable section

namespace Cert.KernelIdeal.Values

open Cert.KernelIdeal Cert.KernelIdeal.Gen Cert.KernelIdeal.Frames
open Idealize.ShloMosaic Idealize.ShloMosaic.TcCoe

/-- Row `r` of the block and of the rows that follow it. -/
def rowE (x4 : Vec Ideal S1x256x2560 .bf16) (x5 : Vec Ideal S1x16x2560 .bf16) (r : Fin 288) (k : Fin 2560) : EReal :=
  if h : r.val < 256 then x4 (ix3 0 ⟨r.val, h⟩ k) else k0_pay114 x5 (ix2 ⟨r.val - 256, by omega⟩ k)

/-- The bound of row `r`. -/
def boundE (x4 : Vec Ideal S1x256x2560 .bf16) (x5 : Vec Ideal S1x16x2560 .bf16) (r : Fin 288) : EReal := amax (rowE x4 x5 r) * C448

/-- The codes of row `r`. -/
def codeE (x4 : Vec Ideal S1x256x2560 .bf16) (x5 : Vec Ideal S1x16x2560 .bf16) (r : Fin 288) (k : Fin 2560) : EReal :=
  clipE (rowE x4 x5 r k * Quant.invK (boundE x4 x5 r))

/-- The scale of row `r`. -/
def scaleE (x4 : Vec Ideal S1x256x2560 .bf16) (x5 : Vec Ideal S1x16x2560 .bf16) (r : Fin 288) : EReal := Quant.scaleK (boundE x4 x5 r)

variable (c : Dev nD) (arg4 : Memref sig .tc .vmem S1x256x2560 .bf16) (arg5 : Memref sig .tc .vmem S1x16x2560 .bf16)
  (f4 : BufTy.Contents (Elt Ideal) arg4.view.ty) (f5 : BufTy.Contents (Elt Ideal) arg5.view.ty)
  (x4 : Vec Ideal S1x256x2560 .bf16) (x5 : Vec Ideal S1x16x2560 .bf16)

theorem rowsAt_apply (h4 : arg4.view.read (Elt Ideal) f4 = x4) (o : ℕ) (h : ∀ a, (![0, o, 0] : Fin 3 → ℕ) a + S1x32x2560.size a ≤ S1x256x2560.size a)
    (ho : o + 32 ≤ 256) (a : Fin 32) (k : Fin 2560) : rowsAt arg4 f4 o h (ix2 a k) = rowE x4 x5 ⟨o + a.val, by omega⟩ k := by
  unfold rowsAt rowE
  rw [pay38_apply, View.readAt_apply, h4, dif_pos (by show o + a.val < 256; omega)]
  congr 1
  funext x
  apply Fin.ext
  match x with
  | ⟨0, _⟩ => rfl
  | ⟨1, _⟩ => show o + 1 * a.val = o + a.val; omega
  | ⟨2, _⟩ => show 0 + 1 * k.val = k.val; omega

theorem nextAt_apply (h5 : arg5.view.read (Elt Ideal) f5 = x5) (a : Fin 32) (k : Fin 2560) : nextAt arg5 f5 (ix2 a k) = rowE x4 x5 ⟨256 + a.val, by omega⟩ k := by
  unfold nextAt rowE
  rw [dif_neg (by show ¬ 256 + a.val < 256; omega)]
  have e : View.readAt (Elt Ideal) arg5.view (Rect.unit (s := S1x16x2560) ![0, 0, 0] S1x16x2560.size inb_S1x16x2560_S1x16x2560_0_0_0).toLoadRect f5 = x5 := by
    funext y
    rw [View.readAt_apply, h5]
    congr 1
    funext x
    apply Fin.ext
    match x with
    | ⟨0, _⟩ => show 0 + 1 * (y 0).val = (y 0).val; omega
    | ⟨1, _⟩ => show 0 + 1 * (y 1).val = (y 1).val; omega
    | ⟨2, _⟩ => show 0 + 1 * (y 2).val = (y 2).val; omega
  rw [e]
  congr 1
  funext x
  apply Fin.ext
  match x with
  | ⟨0, _⟩ => show a.val = 256 + a.val - 256; omega
  | ⟨1, _⟩ => rfl

/-- A piece of 32 rows of codes that agrees with the codes of the rows it covers. -/
theorem code_piece (v : FVec Ideal S32x2560 .bf16) (o : ℕ) (ho : o + 32 ≤ 288) (hv : ∀ (a : Fin 32) (k : Fin 2560), v (ix2 a k) = rowE x4 x5 ⟨o + a.val, by omega⟩ k)
    (inb : ∀ a, (![o, 0] : Fin 2 → ℕ) a + S32x2560.size a ≤ S288x2560.size a) (x : S32x2560.Idx) :
    qcodeV v x = (fun y : S288x2560.Idx => codeE x4 x5 (y 0) (y 1)) ((Rect.unit (s := S288x2560) ![o, 0] S32x2560.size inb).emb x) := by
  obtain ⟨a, k, rfl⟩ : ∃ (a : Fin 32) (k : Fin 2560), x = ix2 a k := ⟨x 0, x 1, ValueIdx.eq_ix2 x⟩
  rw [qcodeV_apply]
  have e0 : ((Rect.unit (s := S288x2560) ![o, 0] S32x2560.size inb).emb (ix2 a k)) 0 = (⟨o + a.val, by omega⟩ : Fin 288) :=
    Fin.ext (by show o + 1 * a.val = o + a.val; omega)
  have e1 : ((Rect.unit (s := S288x2560) ![o, 0] S32x2560.size inb).emb (ix2 a k)) 1 = k :=
    Fin.ext (by show 0 + 1 * k.val = k.val; omega)
  show _ = codeE x4 x5 (((Rect.unit (s := S288x2560) ![o, 0] S32x2560.size inb).emb (ix2 a k)) 0) (((Rect.unit (s := S288x2560) ![o, 0] S32x2560.size inb).emb (ix2 a k)) 1)
  rw [e0, e1]
  unfold codeE boundE
  rw [hv]
  simp only [hv]

/-- A piece of 32 rows of scales that agrees with the scales of the rows it covers. -/
theorem scale_piece (v : FVec Ideal S32x2560 .bf16) (o : ℕ) (ho : o + 32 ≤ 288) (hv : ∀ (a : Fin 32) (k : Fin 2560), v (ix2 a k) = rowE x4 x5 ⟨o + a.val, by omega⟩ k)
    (inb : ∀ a, (![o, 0] : Fin 2 → ℕ) a + S32x128.size a ≤ S288x128.size a) (x : S32x128.Idx) :
    qscaleV v x = (fun y : S288x128.Idx => scaleE x4 x5 (y 0)) ((Rect.unit (s := S288x128) ![o, 0] S32x128.size inb).emb x) := by
  obtain ⟨a, k, rfl⟩ : ∃ (a : Fin 32) (k : Fin 128), x = ix2 a k := ⟨x 0, x 1, ValueIdx.eq_ix2 x⟩
  rw [qscaleV_apply]
  have e0 : ((Rect.unit (s := S288x128) ![o, 0] S32x128.size inb).emb (ix2 a k)) 0 = (⟨o + a.val, by omega⟩ : Fin 288) :=
    Fin.ext (by show o + 1 * a.val = o + a.val; omega)
  show _ = scaleE x4 x5 (((Rect.unit (s := S288x128) ![o, 0] S32x128.size inb).emb (ix2 a k)) 0)
  rw [e0]
  unfold scaleE boundE
  simp only [hv]

set_option maxHeartbeats 1000000 in
/-- The code buffer at an element. -/
theorem canon21 (h4 : arg4.view.read (Elt Ideal) f4 = x4) (h5 : arg5.view.read (Elt Ideal) f5 = x5) (r : Fin 288) (k : Fin 2560) :
    View.canon (kernelRun.sl.H21_9 (F := Ideal) c arg4 arg5 f4 f5) (ix2 r k) = codeE x4 x5 r k := by
  rw [H21_eq]
  refine View.canon_apply_of_pieces (Val := Elt Ideal) (e := .fp8e4m3) (fun y : S288x2560.Idx => (codeE x4 x5 (y 0) (y 1) : EReal)) _ ?_ _ ?_
  · simp only [List.forall_mem_cons, List.not_mem_nil, false_imp_iff, implies_true, and_true]
    exact ⟨code_piece x4 x5 _ 256 (by decide) (nextAt_apply arg5 f5 x4 x5 h5) _,
      code_piece x4 x5 _ 224 (by decide) (rowsAt_apply arg4 f4 x4 x5 h4 224 _ (by decide)) _,
      code_piece x4 x5 _ 192 (by decide) (rowsAt_apply arg4 f4 x4 x5 h4 192 _ (by decide)) _,
      code_piece x4 x5 _ 160 (by decide) (rowsAt_apply arg4 f4 x4 x5 h4 160 _ (by decide)) _,
      code_piece x4 x5 _ 128 (by decide) (rowsAt_apply arg4 f4 x4 x5 h4 128 _ (by decide)) _,
      code_piece x4 x5 _ 96 (by decide) (rowsAt_apply arg4 f4 x4 x5 h4 96 _ (by decide)) _,
      code_piece x4 x5 _ 64 (by decide) (rowsAt_apply arg4 f4 x4 x5 h4 64 _ (by decide)) _,
      code_piece x4 x5 _ 32 (by decide) (rowsAt_apply arg4 f4 x4 x5 h4 32 _ (by decide)) _,
      code_piece x4 x5 _ 0 (by decide) (rowsAt_apply arg4 f4 x4 x5 h4 0 _ (by decide)) _⟩
  · have e0 : ((ix2 r k : S288x2560.Idx) 0 : ℕ) = r.val := rfl
    have e1 : ((ix2 r k : S288x2560.Idx) 1 : ℕ) = k.val := rfl
    have s0 : S32x2560.size 0 = 32 := rfl
    have s1 : S32x2560.size 1 = 2560 := rfl
    simp only [List.exists_mem_cons_iff, List.not_mem_nil, false_and, exists_false, or_false, Rect.mem_set_unit, Fin.forall_fin_two, Matrix.cons_val_zero, Matrix.cons_val_one, e0, e1, s0, s1]
    have := r.2
    have := k.2
    omega

set_option maxHeartbeats 1000000 in
/-- The scale buffer at an element. -/
theorem canon22 (h4 : arg4.view.read (Elt Ideal) f4 = x4) (h5 : arg5.view.read (Elt Ideal) f5 = x5) (r : Fin 288) (l : Fin 128) :
    View.canon (kernelRun.sl.H22_9 (F := Ideal) c arg4 arg5 f4 f5) (ix2 r l) = scaleE x4 x5 r := by
  rw [H22_eq]
  refine View.canon_apply_of_pieces (Val := Elt Ideal) (e := .f32) (fun y : S288x128.Idx => (scaleE x4 x5 (y 0) : EReal)) _ ?_ _ ?_
  · simp only [List.forall_mem_cons, List.not_mem_nil, false_imp_iff, implies_true, and_true]
    exact ⟨scale_piece x4 x5 _ 256 (by decide) (nextAt_apply arg5 f5 x4 x5 h5) _,
      scale_piece x4 x5 _ 224 (by decide) (rowsAt_apply arg4 f4 x4 x5 h4 224 _ (by decide)) _,
      scale_piece x4 x5 _ 192 (by decide) (rowsAt_apply arg4 f4 x4 x5 h4 192 _ (by decide)) _,
      scale_piece x4 x5 _ 160 (by decide) (rowsAt_apply arg4 f4 x4 x5 h4 160 _ (by decide)) _,
      scale_piece x4 x5 _ 128 (by decide) (rowsAt_apply arg4 f4 x4 x5 h4 128 _ (by decide)) _,
      scale_piece x4 x5 _ 96 (by decide) (rowsAt_apply arg4 f4 x4 x5 h4 96 _ (by decide)) _,
      scale_piece x4 x5 _ 64 (by decide) (rowsAt_apply arg4 f4 x4 x5 h4 64 _ (by decide)) _,
      scale_piece x4 x5 _ 32 (by decide) (rowsAt_apply arg4 f4 x4 x5 h4 32 _ (by decide)) _,
      scale_piece x4 x5 _ 0 (by decide) (rowsAt_apply arg4 f4 x4 x5 h4 0 _ (by decide)) _⟩
  · have e0 : ((ix2 r l : S288x128.Idx) 0 : ℕ) = r.val := rfl
    have e1 : ((ix2 r l : S288x128.Idx) 1 : ℕ) = l.val := rfl
    have s0 : S32x128.size 0 = 32 := rfl
    have s1 : S32x128.size 1 = 128 := rfl
    simp only [List.exists_mem_cons_iff, List.not_mem_nil, false_and, exists_false, or_false, Rect.mem_set_unit, Fin.forall_fin_two, Matrix.cons_val_zero, Matrix.cons_val_one, e0, e1, s0, s1]
    have := r.2
    have := l.2
    omega

end Cert.KernelIdeal.Values
end
-- ==== Proof.KernelIdealTrips.lean ====
/-
  The two loops over 56 groups of 32 output columns, one trip at a time: what a trip of the first stores and carries on, and
  what a trip of the second stores.
-/
module

public import proofs.«01_k».proof.Proof.KernelIdealVec
public import proofs.«01_k».proof.Proof.Gen.KernelIdeal.Loops

@[expose] public section

set_option maxRecDepth 16384

noncomputable section

namespace Cert.KernelIdeal.Values

open Cert.KernelIdeal Cert.KernelIdeal.Gen
open Idealize.ShloMosaic Idealize.ShloMosaic.TcCoe Idealize.ShloMosaic.Tactic

theorem trips3 : k0_t3_loop.trips = 56 := by decide +kernel
theorem trips4 : k0_t4_loop.trips = 56 := by decide +kernel
theorem off9_eq : ∀ k : Fin k0_t3_loop.trips, k0_off9 k = ![32 * k.val, 0] := by decide +kernel
theorem off10_eq : ∀ k : Fin k0_t3_loop.trips, k0_off10 k = ![32 * k.val, 0] := by decide +kernel
theorem off11_eq : ∀ k : Fin k0_t4_loop.trips, k0_off11 k = ![32 * k.val, 0] := by decide +kernel
theorem off12_eq : ∀ k : Fin k0_t4_loop.trips, k0_off12 k = ![0, k.val, 0] := by decide +kernel

section Generic

variable {F : FTy → Type} [FloatOps F] [∀ e, Nonempty (Elt F e)]
variable (𝒱 : Variants) (c : Dev nD) (bd : Option 𝒱.V) (i : grid0.Coords) (arg2 : Memref sig .tc .smem S12 .i32) (harg2 : arg2.IsWhole) (arg3 : Memref sig .tc .smem S1 .f32) (harg3 : arg3.IsWhole) (arg4 : Memref sig .tc .vmem S1x256x2560 .bf16) (harg4 : arg4.IsWhole) (arg5 : Memref sig .tc .vmem S1x16x2560 .bf16) (harg5 : arg5.IsWhole) (arg6 : Memref sig .tc .vmem S12x2048 .i32) (harg6 : arg6.IsWhole) (arg7 : Memref sig .tc .vmem S1x2560 .f32) (harg7 : arg7.IsWhole) (arg8 : Memref sig .tc .vmem S2560x1792 .fp8e4m3) (harg8 : arg8.IsWhole) (arg9 : Memref sig .tc .vmem S1x1792 .f32) (harg9 : arg9.IsWhole) (arg10 : Memref sig .tc .vmem S1x1792 .f32) (harg10 : arg10.IsWhole) (arg11 : Memref sig .tc .vmem S12x2560 .f32) (harg11 : arg11.IsWhole) (arg12 : Memref sig .tc .vmem S12x2048 .f32) (harg12 : arg12.IsWhole) (arg13 : Memref sig .tc .vmem S12x2048 .f32) (harg13 : arg13.IsWhole) (arg14 : Memref sig .tc .vmem S1x256x1792 .fp8e4m3) (harg14 : arg14.IsWhole) (arg15 : Memref sig .tc .vmem S1x56x256 .f32) (harg15 : arg15.IsWhole) (arg16 : Memref sig .tc .vmem S1x256x2560 .fp8e4m3) (harg16 : arg16.IsWhole) (arg17 : Memref sig .tc .vmem S12x2048 .f32) (harg17 : arg17.IsWhole) (arg18 : Memref sig .tc .vmem S1792x2560 .fp8e4m3) (harg18 : arg18.IsWhole) (arg19 : Memref sig .tc .vmem S1792x128 .f32) (harg19 : arg19.IsWhole) (arg20 : Memref sig .tc .vmem S1792x128 .f32) (harg20 : arg20.IsWhole) (arg21 : Memref sig .tc .vmem S288x2560 .fp8e4m3) (harg21 : arg21.IsWhole) (arg22 : Memref sig .tc .vmem S288x128 .f32) (harg22 : arg22.IsWhole) (arg23 : Memref sig .tc .vmem S1792x256 .f32) (harg23 : arg23.IsWhole) (arg24 : Memref sig .tc .vmem S1792x256 .fp8e4m3) (harg24 : arg24.IsWhole) (arg1 : BitVec 32) (v1 : Elt F .i32) (v1031 : FVec F S1x256 .f32)

/-- The rows of group `k` of a buffer of 1792 rows and 128 lanes. -/
def group128 (a : Memref sig .tc .vmem S1792x128 .f32) (X : BufTy.Contents (Elt F) a.view.ty) (k : Fin k0_t3_loop.trips) : Vec F S32x128 .f32 :=
  View.readAt (Elt F) a.view (Rect.unit (s := S1792x128) (k0_off9 k) S32x128.size (k0_off9_inb k)).toLoadRect X

/-- The rows of group `k` of a buffer of 1792 rows and 256 lanes. -/
def group256 (a : Memref sig .tc .vmem S1792x256 .f32) (X : BufTy.Contents (Elt F) a.view.ty) (k : Fin k0_t3_loop.trips) : Vec F S32x256 .f32 :=
  View.readAt (Elt F) a.view (Rect.unit (s := S1792x256) (k0_off10 k) S32x256.size (k0_off10_inb k)).toLoadRect X

/-- The same rows, as the second loop spells them. -/
def group256' (a : Memref sig .tc .vmem S1792x256 .f32) (X : BufTy.Contents (Elt F) a.view.ty) (k : Fin k0_t4_loop.trips) : Vec F S32x256 .f32 :=
  View.readAt (Elt F) a.view (Rect.unit (s := S1792x256) (k0_off11 k) S32x256.size (k0_off11_inb k)).toLoadRect X

theorem tripR3 (X19 : BufTy.Contents (Elt F) arg19.view.ty) (X20 : BufTy.Contents (Elt F) arg20.view.ty) (k : Fin k0_t3_loop.trips) (acc : FVec F S8x256 .f32) (f : BufTy.Contents (Elt F) arg23.view.ty) :
    tripR_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg1 v1 v1031 X19 X20 k acc f
      = k0_pay30 arg1 v1 v1031 acc (group128 arg19 X19 k) (group128 arg20 X20 k) (group256 arg23 f k) := by
  unfold tripR_k0_t3 trip_k0_t3
  rfl

theorem tripL3 (X19 : BufTy.Contents (Elt F) arg19.view.ty) (X20 : BufTy.Contents (Elt F) arg20.view.ty) (k : Fin k0_t3_loop.trips) (acc : FVec F S8x256 .f32) (f : BufTy.Contents (Elt F) arg23.view.ty) :
    tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg1 v1 v1031 X19 X20 k acc f
      = [⟨Rect.unit (s := S1792x256) (k0_off10 k) S32x256.size (k0_off10_inb k), k0_pay29 arg1 v1 v1031 (group128 arg19 X19 k) (group128 arg20 X20 k) (group256 arg23 f k)⟩] := by
  unfold tripL_k0_t3 trip_k0_t3
  rfl

/-- The exponent field of a group, per lane. -/
def groupField (v1076 : FVec F S8x256 .f32) (y : Vec F S32x256 .f32) : IVec S1x256 32 := fieldV (k0_pay22 (k0_pay31 v1076) y)

set_option maxHeartbeats 2000000 in
theorem tripL4 (v1076 : FVec F S8x256 .f32) (X23 : BufTy.Contents (Elt F) arg23.view.ty) (k : Fin k0_t4_loop.trips) :
    tripL_k0_t4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg1 v1 v1031 v1076 X23 k
      = ([⟨Rect.unit (s := S1x56x256) (k0_off12 k) S1x1x256.size (k0_off12_inb k), k0_pay32 (groupField v1076 (group256' arg23 X23 k))⟩],
         [⟨Rect.unit (s := S1792x256) (k0_off11 k) S32x256.size (k0_off11_inb k), k0_pay33 (k0_pay21 (k0_pay31 v1076) (group256' arg23 X23 k)) (groupField v1076 (group256' arg23 X23 k))⟩]) := by
  unfold tripL_k0_t4 trip_k0_t4
  rfl

end Generic

end Cert.KernelIdeal.Values
end
-- ==== Proof.KernelIdealLoop.lean ====
/-
  The two loops over 56 groups of 32 output columns, run to the end, over the extended reals. The first leaves the products
  scaled, biased and masked in their buffer and carries the sums of their squares; the second leaves the groups' scales and
  codes.
-/
module

public import proofs.«01_k».proof.Proof.KernelIdealElem
public import proofs.«01_k».proof.Proof.KernelIdealTrips
public import Idealize.ShloMosaic.Lib.WritesUnit

@[expose] public section

set_option maxRecDepth 16384

noncomputable section

namespace Cert.KernelIdeal.Values

open Cert.KernelIdeal Cert.KernelIdeal.Gen
open Idealize.ShloMosaic Idealize.ShloMosaic.TcCoe Idealize.ShloMosaic.Tactic

variable (𝒱 : Variants) (c : Dev nD) (bd : Option 𝒱.V) (i : grid0.Coords) (arg2 : Memref sig .tc .smem S12 .i32) (harg2 : arg2.IsWhole) (arg3 : Memref sig .tc .smem S1 .f32) (harg3 : arg3.IsWhole) (arg4 : Memref sig .tc .vmem S1x256x2560 .bf16) (harg4 : arg4.IsWhole) (arg5 : Memref sig .tc .vmem S1x16x2560 .bf16) (harg5 : arg5.IsWhole) (arg6 : Memref sig .tc .vmem S12x2048 .i32) (harg6 : arg6.IsWhole) (arg7 : Memref sig .tc .vmem S1x2560 .f32) (harg7 : arg7.IsWhole) (arg8 : Memref sig .tc .vmem S2560x1792 .fp8e4m3) (harg8 : arg8.IsWhole) (arg9 : Memref sig .tc .vmem S1x1792 .f32) (harg9 : arg9.IsWhole) (arg10 : Memref sig .tc .vmem S1x1792 .f32) (harg10 : arg10.IsWhole) (arg11 : Memref sig .tc .vmem S12x2560 .f32) (harg11 : arg11.IsWhole) (arg12 : Memref sig .tc .vmem S12x2048 .f32) (harg12 : arg12.IsWhole) (arg13 : Memref sig .tc .vmem S12x2048 .f32) (harg13 : arg13.IsWhole) (arg14 : Memref sig .tc .vmem S1x256x1792 .fp8e4m3) (harg14 : arg14.IsWhole) (arg15 : Memref sig .tc .vmem S1x56x256 .f32) (harg15 : arg15.IsWhole) (arg16 : Memref sig .tc .vmem S1x256x2560 .fp8e4m3) (harg16 : arg16.IsWhole) (arg17 : Memref sig .tc .vmem S12x2048 .f32) (harg17 : arg17.IsWhole) (arg18 : Memref sig .tc .vmem S1792x2560 .fp8e4m3) (harg18 : arg18.IsWhole) (arg19 : Memref sig .tc .vmem S1792x128 .f32) (harg19 : arg19.IsWhole) (arg20 : Memref sig .tc .vmem S1792x128 .f32) (harg20 : arg20.IsWhole) (arg21 : Memref sig .tc .vmem S288x2560 .fp8e4m3) (harg21 : arg21.IsWhole) (arg22 : Memref sig .tc .vmem S288x128 .f32) (harg22 : arg22.IsWhole) (arg23 : Memref sig .tc .vmem S1792x256 .f32) (harg23 : arg23.IsWhole) (arg24 : Memref sig .tc .vmem S1792x256 .fp8e4m3) (harg24 : arg24.IsWhole) (arg1 : BitVec 32) (v1 : BitVec 32) (v1031 : FVec Ideal S1x256 .f32)

theorem group128_apply (a : Memref sig .tc .vmem S1792x128 .f32) (X : BufTy.Contents (Elt Ideal) a.view.ty) (k : Fin k0_t3_loop.trips)
    (j : Fin 32) (l : Fin 128) (h : 32 * k.val + j.val < 1792) :
    group128 a X k (ix2 j l) = a.view.read (Elt Ideal) X (ix2 ⟨32 * k.val + j.val, h⟩ l) := by
  unfold group128
  rw [View.readAt_apply]
  congr 1
  funext x
  apply Fin.ext
  refine (congrArg (· + 1 * _) (congrFun (off9_eq k) x)).trans ?_
  match x with
  | ⟨0, _⟩ => show 32 * k.val + 1 * j.val = 32 * k.val + j.val; omega
  | ⟨1, _⟩ => show 0 + 1 * l.val = l.val; omega

theorem group256_apply (a : Memref sig .tc .vmem S1792x256 .f32) (X : BufTy.Contents (Elt Ideal) a.view.ty) (k : Fin k0_t3_loop.trips)
    (j : Fin 32) (r : Fin 256) (h : 32 * k.val + j.val < 1792) :
    group256 a X k (ix2 j r) = a.view.read (Elt Ideal) X (ix2 ⟨32 * k.val + j.val, h⟩ r) := by
  unfold group256
  rw [View.readAt_apply]
  congr 1
  funext x
  apply Fin.ext
  refine (congrArg (· + 1 * _) (congrFun (off10_eq k) x)).trans ?_
  match x with
  | ⟨0, _⟩ => show 32 * k.val + 1 * j.val = 32 * k.val + j.val; omega
  | ⟨1, _⟩ => show 0 + 1 * r.val = r.val; omega

theorem group256'_apply (a : Memref sig .tc .vmem S1792x256 .f32) (X : BufTy.Contents (Elt Ideal) a.view.ty) (k : Fin k0_t4_loop.trips)
    (j : Fin 32) (r : Fin 256) (h : 32 * k.val + j.val < 1792) :
    group256' a X k (ix2 j r) = a.view.read (Elt Ideal) X (ix2 ⟨32 * k.val + j.val, h⟩ r) := by
  unfold group256'
  rw [View.readAt_apply]
  congr 1
  funext x
  apply Fin.ext
  refine (congrArg (· + 1 * _) (congrFun (off11_eq k) x)).trans ?_
  match x with
  | ⟨0, _⟩ => show 32 * k.val + 1 * j.val = 32 * k.val + j.val; omega
  | ⟨1, _⟩ => show 0 + 1 * r.val = r.val; omega

/-- One more group stored in front of a list of stores, read at an element. -/
theorem read_cons_group (v : View sig .tc .vmem S1792x256 .f32) (f : v.ty.Contents (Elt Ideal)) (k : Fin k0_t3_loop.trips) (w : S32x256.Idx → EReal)
    (L : List (View.Piece (Elt Ideal) S1792x256 .f32)) (n : Fin 1792) (r : Fin 256) :
    v.read (Elt Ideal) (v.writes (Elt Ideal) f ((⟨Rect.unit (s := S1792x256) (k0_off10 k) S32x256.size (k0_off10_inb k), w⟩ : View.Piece (Elt Ideal) S1792x256 .f32) :: L)) (ix2 n r)
      = if h : 32 * k.val ≤ n.val ∧ n.val < 32 * k.val + 32 then w (ix2 ⟨n.val - 32 * k.val, by omega⟩ r) else v.read (Elt Ideal) (v.writes (Elt Ideal) f L) (ix2 n r) := by
  split
  · rename_i h
    exact View.read_writes_cons_unit_of_mem v f (size := S32x256.size) (k0_off10_inb k) w L (ix2 n r) (ix2 ⟨n.val - 32 * k.val, by omega⟩ r) (off10_eq k)
      (fun a => match a with
        | ⟨0, _⟩ => by show n.val = 32 * k.val + (n.val - 32 * k.val); omega
        | ⟨1, _⟩ => by show r.val = 0 + r.val; omega)
  · rename_i h
    exact View.read_writes_cons_unit_of_not_mem v f (size := S32x256.size) (k0_off10_inb k) w L (ix2 n r) (off10_eq k) (0 : Fin 2)
      (by show n.val < 32 * k.val ∨ 32 * k.val + 32 ≤ n.val; omega)

/-- The product of column `n` and lane `r`, scaled, biased, and zero where the lane holds no token. -/
def yE (M : Fin 1792 → Fin 256 → EReal) (A B : Fin 1792 → EReal) (n : Fin 1792) (r : Fin 256) : EReal :=
  Scalar.select (okW arg1 v1 r) (M n r * v1031 (ix2 0 r) * A n + B n) 0

variable (X19 : BufTy.Contents (Elt Ideal) arg19.view.ty) (X20 : BufTy.Contents (Elt Ideal) arg20.view.ty) (G : BufTy.Contents (Elt Ideal) arg23.view.ty)
  (M : Fin 1792 → Fin 256 → EReal) (A B : Fin 1792 → EReal)

/-- The first loop after `k` trips: the columns before `32 * k` are done, and the carried sums are over them. -/
theorem loop3_inv (hA : ∀ n l, arg19.view.read (Elt Ideal) X19 (ix2 n l) = A n) (hB : ∀ n l, arg20.view.read (Elt Ideal) X20 (ix2 n l) = B n)
    (hM : ∀ n r, arg23.view.read (Elt Ideal) G (ix2 n r) = M n r) (k : ℕ) (hk : k ≤ 56) :
    (∀ (n : Fin 1792) (r : Fin 256), arg23.view.read (Elt Ideal) (arg23.view.writes (Elt Ideal) G
        (st_k0_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg1 v1 v1031 X19 X20 G k0_pay27 k).2) (ix2 n r)
        = if n.val < 32 * k then yE arg1 v1 v1031 M A B n r else M n r)
    ∧ ∀ (j : Fin 8) (r : Fin 256), (st_k0_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg1 v1 v1031 X19 X20 G k0_pay27 k).1 (ix2 j r)
        = ∑ g : Fin k, ∑ q : Fin 4, yE arg1 v1 v1031 M A B ⟨32 * g.val + (q.val * 8 + j.val), by omega⟩ r
            * yE arg1 v1 v1031 M A B ⟨32 * g.val + (q.val * 8 + j.val), by omega⟩ r := by
  induction k with
  | zero =>
    refine ⟨fun n r => ?_, fun j r => ?_⟩
    · rw [if_neg (by omega)]; exact hM n r
    · rw [Finset.univ_eq_empty, Finset.sum_empty]
      show k0_pay27 (F := Ideal) (ix2 j r) = 0
      unfold k0_pay27
      pointwise
  | succ k ih =>
    obtain ⟨ih1, ih2⟩ := ih (by omega)
    have ht : k < k0_t3_loop.trips := by rw [trips3]; omega
    rw [st_k0_t3_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg1 v1 v1031 X19 X20 G k0_pay27 ⟨k, ht⟩, tripR3, tripL3]
    have h28 : ∀ (j : Fin 32) (r : Fin 256), k0_pay28 arg1 v1 v1031 (group128 arg19 X19 ⟨k, ht⟩) (group128 arg20 X20 ⟨k, ht⟩)
        (group256 arg23 (arg23.view.writes (Elt Ideal) G (st_k0_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg1 v1 v1031 X19 X20 G k0_pay27 k).2) ⟨k, ht⟩) (ix2 j r)
        = yE arg1 v1 v1031 M A B ⟨32 * k + j.val, by omega⟩ r := fun j r => by
      rw [pay28_apply arg1 v1 v1031 _ _ _ (fun j => A ⟨32 * k + j.val, by omega⟩) (fun j => B ⟨32 * k + j.val, by omega⟩)
        (fun j l => (group128_apply arg19 X19 ⟨k, ht⟩ j l (by show 32 * k + j.val < 1792; omega)).trans (hA _ _))
        (fun j l => (group128_apply arg20 X20 ⟨k, ht⟩ j l (by show 32 * k + j.val < 1792; omega)).trans (hB _ _)),
        group256_apply arg23 _ ⟨k, ht⟩ j r (by show 32 * k + j.val < 1792; omega), ih1, if_neg (by show ¬ 32 * k + j.val < 32 * k; omega)]
      rfl
    refine ⟨fun n r => ?_, fun j r => ?_⟩
    · rw [List.singleton_append]
      refine (read_cons_group arg23.view G ⟨k, ht⟩ _ _ n r).trans ?_
      by_cases h1 : n.val < 32 * k
      · rw [dif_neg (by show ¬ (32 * k ≤ n.val ∧ _); omega), if_pos (by omega)]
        exact (ih1 n r).trans (if_pos h1)
      · by_cases h2 : n.val < 32 * (k + 1)
        · rw [dif_pos (by show 32 * k ≤ n.val ∧ n.val < 32 * k + 32; omega), if_pos h2]
          have e29 : ∀ (xs : FVec Ideal S1x256 .f32) (a b : Vec Ideal S32x128 .f32) (y : Vec Ideal S32x256 .f32) (p : S32x256.Idx), k0_pay29 arg1 v1 xs a b y p = k0_pay28 arg1 v1 xs a b y p := fun xs a b y p => by
            unfold k0_pay29; pointwise
          rw [e29, h28]
          congr 1
          exact Fin.ext (by show 32 * k + (n.val - 32 * k) = n.val; omega)
        · rw [dif_neg (by show ¬ (32 * k ≤ n.val ∧ n.val < 32 * k + 32); omega), if_neg h2]
          exact (ih1 n r).trans (if_neg h1)
    · refine (pay30_apply _ _ _ _ _ _ _ j r).trans ?_
      conv_rhs => rw [Fin.sum_univ_castSucc]
      refine congrArg₂ (fun a b : EReal => a + b) (ih2 j r) ?_
      exact Finset.sum_congr rfl fun q _ => congrArg₂ (fun a b : EReal => a * b) (h28 _ r) (h28 _ r)

/-- A sum over the 1792 columns, by groups of 32 cut into four times eight. -/
theorem sum_groups (f : Fin 1792 → EReal) :
    ∑ j : Fin 8, ∑ g : Fin 56, ∑ q : Fin 4, f ⟨32 * g.val + (q.val * 8 + j.val), by omega⟩ = ∑ n : Fin 1792, f n := by
  rw [Finset.sum_comm]
  have h1 : ∑ n : Fin 1792, f n = ∑ g : Fin 56, ∑ b : Fin 32, f ⟨32 * g.val + b.val, by omega⟩ := by
    rw [← Fintype.sum_prod_type']
    refine (Equiv.sum_comp (finProdFinEquiv : Fin 56 × Fin 32 ≃ Fin (56 * 32)) f).symm.trans ?_
    exact Finset.sum_congr rfl fun x _ => congrArg f (Fin.ext (by show x.2.val + 32 * x.1.val = 32 * x.1.val + x.2.val; omega))
  rw [h1]
  refine Finset.sum_congr rfl fun g _ => ?_
  have h2 : ∀ f' : Fin 32 → EReal, ∑ b : Fin 32, f' b = ∑ q : Fin 4, ∑ j : Fin 8, f' ⟨q.val * 8 + j.val, by omega⟩ := fun f' => by
    rw [← Fintype.sum_prod_type']
    refine (Equiv.sum_comp (finProdFinEquiv : Fin 4 × Fin 8 ≃ Fin (4 * 8)) f').symm.trans ?_
    exact Finset.sum_congr rfl fun x _ => congrArg f' (Fin.ext (by show x.2.val + 8 * x.1.val = x.1.val * 8 + x.2.val; omega))
  rw [h2 fun b => f ⟨32 * g.val + b.val, by omega⟩, Finset.sum_comm]

/-- The scale of group `g` of a list of 1792 values. -/
def gscale (v : Fin 1792 → EReal) (g : Fin 56) : EReal := amax (fun j : Fin 32 => v ⟨32 * g.val + j.val, by omega⟩) * C448

/-- One more group's scales stored in front of a list of stores, read at an element. -/
theorem read_cons_scale (v : View sig .tc .vmem S1x56x256 .f32) (f : v.ty.Contents (Elt Ideal)) (k : Fin k0_t4_loop.trips) (w : S1x1x256.Idx → EReal)
    (L : List (View.Piece (Elt Ideal) S1x56x256 .f32)) (g : Fin 56) (r : Fin 256) :
    v.read (Elt Ideal) (v.writes (Elt Ideal) f ((⟨Rect.unit (s := S1x56x256) (k0_off12 k) S1x1x256.size (k0_off12_inb k), w⟩ : View.Piece (Elt Ideal) S1x56x256 .f32) :: L)) (ix3 0 g r)
      = if g.val = k.val then w (ix3 0 0 r) else v.read (Elt Ideal) (v.writes (Elt Ideal) f L) (ix3 0 g r) := by
  split
  · rename_i h
    exact View.read_writes_cons_unit_of_mem v f (size := S1x1x256.size) (k0_off12_inb k) w L (ix3 0 g r) (ix3 0 0 r) (off12_eq k)
      (fun a => match a with
        | ⟨0, _⟩ => by show 0 = 0 + 0; omega
        | ⟨1, _⟩ => by show g.val = k.val + 0; omega
        | ⟨2, _⟩ => by show r.val = 0 + r.val; omega)
  · rename_i h
    exact View.read_writes_cons_unit_of_not_mem v f (size := S1x1x256.size) (k0_off12_inb k) w L (ix3 0 g r) (off12_eq k) (1 : Fin 3)
      (by show g.val < k.val ∨ k.val + 1 ≤ g.val; omega)

/-- One more group's codes stored in front of a list of stores, read at an element. -/
theorem read_cons_code (v : View sig .tc .vmem S1792x256 .fp8e4m3) (f : v.ty.Contents (Elt Ideal)) (k : Fin k0_t4_loop.trips) (w : S32x256.Idx → EReal)
    (L : List (View.Piece (Elt Ideal) S1792x256 .fp8e4m3)) (n : Fin 1792) (r : Fin 256) :
    v.read (Elt Ideal) (v.writes (Elt Ideal) f ((⟨Rect.unit (s := S1792x256) (k0_off11 k) S32x256.size (k0_off11_inb k), w⟩ : View.Piece (Elt Ideal) S1792x256 .fp8e4m3) :: L)) (ix2 n r)
      = if h : 32 * k.val ≤ n.val ∧ n.val < 32 * k.val + 32 then w (ix2 ⟨n.val - 32 * k.val, by omega⟩ r) else v.read (Elt Ideal) (v.writes (Elt Ideal) f L) (ix2 n r) := by
  split
  · rename_i h
    exact View.read_writes_cons_unit_of_mem v f (size := S32x256.size) (k0_off11_inb k) w L (ix2 n r) (ix2 ⟨n.val - 32 * k.val, by omega⟩ r) (off11_eq k)
      (fun a => match a with
        | ⟨0, _⟩ => by show n.val = 32 * k.val + (n.val - 32 * k.val); omega
        | ⟨1, _⟩ => by show r.val = 0 + r.val; omega)
  · rename_i h
    exact View.read_writes_cons_unit_of_not_mem v f (size := S32x256.size) (k0_off11_inb k) w L (ix2 n r) (off11_eq k) (0 : Fin 2)
      (by show n.val < 32 * k.val ∨ 32 * k.val + 32 ≤ n.val; omega)

/-- The second loop after `k` trips: the scales of the groups before `k` and the codes of their columns are stored. -/
theorem loop4_inv (v1076 : FVec Ideal S8x256 .f32) (X23 : BufTy.Contents (Elt Ideal) arg23.view.ty)
    (f15 : BufTy.Contents (Elt Ideal) arg15.view.ty) (f24 : BufTy.Contents (Elt Ideal) arg24.view.ty)
    (Y : Fin 1792 → Fin 256 → EReal) (R : Fin 256 → EReal)
    (hY : ∀ n r, arg23.view.read (Elt Ideal) X23 (ix2 n r) = Y n r) (hR : ∀ r, k0_pay31 v1076 (ix2 0 r) = R r) (k : ℕ) (hk : k ≤ 56) :
    (∀ (g : Fin 56) (r : Fin 256), arg15.view.read (Elt Ideal) (arg15.view.writes (Elt Ideal) f15
        (pb_k0_t4 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg1 v1 v1031 v1076 X23 k).1) (ix3 0 g r)
        = if g.val < k then Quant.scaleK (gscale (fun n => Y n r * R r) g) else arg15.view.read (Elt Ideal) f15 (ix3 0 g r))
    ∧ ∀ (n : Fin 1792) (r : Fin 256), arg24.view.read (Elt Ideal) (arg24.view.writes (Elt Ideal) f24
        (pb_k0_t4 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg1 v1 v1031 v1076 X23 k).2) (ix2 n r)
        = if n.val < 32 * k then clipE (Y n r * R r * Quant.invK (gscale (fun n => Y n r * R r) ⟨n.val / 32, by omega⟩)) else arg24.view.read (Elt Ideal) f24 (ix2 n r) := by
  induction k with
  | zero =>
    refine ⟨fun g r => ?_, fun n r => ?_⟩
    · rw [if_neg (by omega)]; rfl
    · rw [if_neg (by omega)]; rfl
  | succ k ih =>
    obtain ⟨ih1, ih2⟩ := ih (by omega)
    have ht : k < k0_t4_loop.trips := by rw [trips4]; omega
    rw [pb_k0_t4_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg1 v1 v1031 v1076 X23 ⟨k, ht⟩, tripL4]
    have hg : ∀ (j : Fin 32) (r : Fin 256), group256' arg23 X23 ⟨k, ht⟩ (ix2 j r) = Y ⟨32 * k + j.val, by omega⟩ r := fun j r =>
      (group256'_apply arg23 X23 ⟨k, ht⟩ j r (by show 32 * k + j.val < 1792; omega)).trans (hY _ _)
    have hq : ∀ r : Fin 256, k0_pay22 (k0_pay31 v1076) (group256' arg23 X23 ⟨k, ht⟩) (ix2 0 r) = gscale (fun n => Y n r * R r) ⟨k, by omega⟩ := fun r => by
      rw [pay22_apply]
      unfold gscale
      simp only [hg, hR]
    refine ⟨fun g r => ?_, fun n r => ?_⟩
    · simp only [List.singleton_append]
      refine (read_cons_scale arg15.view f15 ⟨k, ht⟩ _ _ g r).trans ?_
      by_cases h1 : g.val = k
      · rw [if_pos (by exact h1), if_pos (by omega)]
        unfold groupField
        rw [pay32_apply, hq]
        exact congrArg (fun x => Quant.scaleK (gscale (fun n => Y n r * R r) x)) (Fin.ext h1.symm)
      · rw [if_neg (by exact h1)]
        refine (ih1 g r).trans ?_
        by_cases h2 : g.val < k
        · rw [if_pos h2, if_pos (by omega)]
        · rw [if_neg h2, if_neg (by omega)]
    · simp only [List.singleton_append]
      refine (read_cons_code arg24.view f24 ⟨k, ht⟩ _ _ n r).trans ?_
      by_cases h1 : n.val < 32 * k
      · rw [dif_neg (by show ¬ (32 * k ≤ n.val ∧ n.val < 32 * k + 32); omega), if_pos (by omega)]
        exact (ih2 n r).trans (if_pos h1)
      · by_cases h2 : n.val < 32 * (k + 1)
        · rw [dif_pos (by show 32 * k ≤ n.val ∧ n.val < 32 * k + 32; omega), if_pos h2]
          unfold groupField
          rw [pay33_apply, pay21_apply, hq, hg, hR]
          have e1 : (⟨32 * k + (n.val - 32 * k), by omega⟩ : Fin 1792) = n := Fin.ext (by show 32 * k + (n.val - 32 * k) = n.val; omega)
          have e2 : (⟨k, by omega⟩ : Fin 56) = ⟨n.val / 32, by omega⟩ := Fin.ext (by show k = n.val / 32; omega)
          rw [e2]
          exact congrArg (fun x => clipE (Y x r * R r * _)) e1
        · rw [dif_neg (by show ¬ (32 * k ≤ n.val ∧ n.val < 32 * k + 32); omega), if_neg h2]
          exact (ih2 n r).trans (if_neg h1)

end Cert.KernelIdeal.Values
end
-- ==== Proof.KernelIdealWords.lean ====
/-
  What a grid point of the kernel leaves in the windows of codes and scales, as functions of the blocks it reads.
-/
module

public import proofs.«01_k».proof.Proof.KernelIdealCodes
public import proofs.«01_k».proof.Proof.KernelIdealLoop
public import Idealize.ShloMosaic.Lib.WordArith
public import Idealize.ShloMosaic.Lib.WordCmp
public import Idealize.ShloMosaic.Lib.VecWindow

@[expose] public section

set_option maxRecDepth 16384

noncomputable section

namespace Cert.KernelIdeal.Values

open Cert.KernelIdeal Cert.KernelIdeal.Gen Cert.KernelIdeal.Frames
open Idealize.ShloMosaic Idealize.ShloMosaic.TcCoe

/-- The transposed weights. -/
def wtB (x8 : Vec Ideal S2560x1792 .fp8e4m3) : Vec Ideal S1792x2560 .fp8e4m3 := fun y => x8 (ix2 (y 1) (y 0))

/-- A row of scales or biases turned into columns. -/
def colB (x9 : Vec Ideal S1x1792 .f32) : Vec Ideal S1792x128 .f32 := fun y => x9 (ix2 0 (y 0))

/-- The codes a point leaves: those of the rows after the block's first. -/
def xcB (x4 : Vec Ideal S1x256x2560 .bf16) (x5 : Vec Ideal S1x16x2560 .bf16) : Vec Ideal S1x256x2560 .fp8e4m3 :=
  fun y => codeE x4 x5 ⟨(y 1).val + 1, by have := (y 1).isLt; change _ < 256 at this; omega⟩ (y 2)

/-- The scales a point leaves: its stretch of its row of the array, the rest as found. -/
def xsB (i : grid0.Coords) (x4 : Vec Ideal S1x256x2560 .bf16) (x5 : Vec Ideal S1x16x2560 .bf16) (d17 : Vec Ideal S12x2048 .f32) : Vec Ideal S12x2048 .f32 :=
  fun y => if h : (y 0).val = (i 0).val ∧ 256 * (i 1).val ≤ (y 1).val ∧ (y 1).val < 256 * (i 1).val + 256
    then scaleE x4 x5 ⟨(y 1).val - 256 * (i 1).val + 1, by omega⟩ else d17 y

/-- The projected token `r` of the block, column `n`; zero after the sequence's end. -/
def yB (i : grid0.Coords) (x2 : Vec Ideal S12 .i32) (x4 : Vec Ideal S1x256x2560 .bf16) (x5 : Vec Ideal S1x16x2560 .bf16) (x8 : Vec Ideal S2560x1792 .fp8e4m3) (x9 x10 : Vec Ideal S1x1792 .f32)
    (n : Fin 1792) (r : Fin 256) : EReal :=
  Scalar.select (okW (BitVec.ofNat 32 (i 1).val) (x2 (ix1 (i 0))) r) ((∑ k : Fin 2560, x8 (ix2 k n) * codeE x4 x5 ⟨r.val + 1, by omega⟩ k) * scaleE x4 x5 ⟨r.val + 1, by omega⟩ * x9 (ix2 0 n) + x10 (ix2 0 n)) 0

/-- The projected token divided by its length. -/
def nB (i : grid0.Coords) (x2 : Vec Ideal S12 .i32) (x4 : Vec Ideal S1x256x2560 .bf16) (x5 : Vec Ideal S1x16x2560 .bf16) (x8 : Vec Ideal S2560x1792 .fp8e4m3) (x9 x10 : Vec Ideal S1x1792 .f32)
    (r : Fin 256) (n : Fin 1792) : EReal :=
  yB i x2 x4 x5 x8 x9 x10 n r * Ideal.div 1 (max (Ideal.sqrt (∑ n : Fin 1792, yB i x2 x4 x5 x8 x9 x10 n r * yB i x2 x4 x5 x8 x9 x10 n r)) EPS)

/-- The scales of the normalised tokens. -/
def mvsB (i : grid0.Coords) (x2 : Vec Ideal S12 .i32) (x4 : Vec Ideal S1x256x2560 .bf16) (x5 : Vec Ideal S1x16x2560 .bf16) (x8 : Vec Ideal S2560x1792 .fp8e4m3) (x9 x10 : Vec Ideal S1x1792 .f32) :
    Vec Ideal S1x56x256 .f32 := fun y => Quant.scaleK (gscale (nB i x2 x4 x5 x8 x9 x10 (y 2)) (y 1))

/-- The codes of the normalised tokens. -/
def mvcB (i : grid0.Coords) (x2 : Vec Ideal S12 .i32) (x4 : Vec Ideal S1x256x2560 .bf16) (x5 : Vec Ideal S1x16x2560 .bf16) (x8 : Vec Ideal S2560x1792 .fp8e4m3) (x9 x10 : Vec Ideal S1x1792 .f32) :
    Vec Ideal S1x256x1792 .fp8e4m3 := fun y => clipE (nB i x2 x4 x5 x8 x9 x10 (y 1) (y 2)
      * Quant.invK (gscale (nB i x2 x4 x5 x8 x9 x10 (y 1)) ⟨(y 2).val / 32, by have := (y 2).isLt; change _ < 1792 at this; omega⟩))

section Words

variable {c : Dev nD} {i : grid0.Coords}

theorem ne_ext (b : BitVec 1) : Scalar.cmpi .ne (Scalar.extui b) 0#32 = b := by revert b; decide

theorem ofBool_one (p : Prop) [Decidable p] : BitVec.ofBool (decide p) = 1#1 ↔ p := by
  by_cases h : p <;> simp [h]

/-- A token's number in words is its number. -/
theorem tok_toInt (q r : ℕ) (hq : q < 8) (hr : r < 256) :
    (IntOp.addi (IntOp.addi (IntOp.muli (BitVec.ofNat 32 q) 256#32) 1#32) (BitVec.ofNat 32 r)).toInt = ((256 * q + 1 + r : ℕ) : ℤ) := by
  have e : IntOp.addi (IntOp.addi (IntOp.muli (BitVec.ofNat 32 q) 256#32) 1#32) (BitVec.ofNat 32 r) = BitVec.ofNat 32 (256 * q + 1 + r) := by
    unfold IntOp.addi IntOp.muli
    apply BitVec.eq_of_toNat_eq
    simp only [BitVec.toNat_add, BitVec.toNat_mul, BitVec.toNat_ofNat]
    omega
  rw [e]
  exact WordArith.toInt_ofNat_small _ (by omega)

/-- The mask word of a lane says the token's number is below the length. -/
theorem okW_iff (q : ℕ) (hq : q < 8) (len : BitVec 32) (r : Fin 256) :
    okW (BitVec.ofNat 32 q) len r = 1#1 ↔ ((256 * q + 1 + r.val : ℕ) : ℤ) < len.toInt := by
  unfold okW
  rw [WordCmp.cmpi_slt_eq, tok_toInt q r.val hq r.isLt, ofBool_one]

/-- Whether the block holds a token at all. -/
def live (i : grid0.Coords) (len : BitVec 32) : Prop := (256 * (i 1).val + 1 : ℤ) < len.toInt

theorem start_toInt (i : grid0.Coords) : (Scalar.addi (Scalar.muli (BitVec.ofNat 32 (i 1).val) 256#32) 1#32).toInt = (256 * (i 1).val + 1 : ℤ) := by
  have hq : (i 1).val < 8 := (i 1).isLt
  have e : Scalar.addi (Scalar.muli (BitVec.ofNat 32 (i 1).val) 256#32) 1#32 = BitVec.ofNat 32 (256 * (i 1).val + 1) := by
    unfold Scalar.addi Scalar.muli IntOp.addi IntOp.muli
    apply BitVec.eq_of_toNat_eq
    simp only [BitVec.toNat_add, BitVec.toNat_mul, BitVec.toNat_ofNat]
    omega
  rw [e, WordArith.toInt_ofNat_small _ (by omega)]
  push_cast
  rfl

theorem live_of (len : BitVec 32) (h : Scalar.cmpi .ne (Scalar.extui (Scalar.cmpi .slt (Scalar.addi (Scalar.muli (BitVec.ofNat 32 (i 1).val) 256#32) 1#32) len)) 0#32 = 1#1) : live i len := by
  rw [ne_ext] at h
  unfold Scalar.cmpi at h
  rw [WordCmp.cmpi_slt_eq, start_toInt, ofBool_one] at h
  exact h

theorem not_live_of (len : BitVec 32) (h : ¬ Scalar.cmpi .ne (Scalar.extui (Scalar.cmpi .slt (Scalar.addi (Scalar.muli (BitVec.ofNat 32 (i 1).val) 256#32) 1#32) len)) 0#32 = 1#1) : ¬ live i len := by
  rw [ne_ext] at h
  unfold Scalar.cmpi at h
  rw [WordCmp.cmpi_slt_eq, start_toInt, ofBool_one] at h
  exact h

theorem past_iff (len : BitVec 32) : Scalar.cmpi .ne (Scalar.extui (Scalar.cmpi .sge (Scalar.addi (Scalar.muli (BitVec.ofNat 32 (i 1).val) 256#32) 1#32) len)) 0#32 = 1#1 ↔ ¬ live i len := by
  rw [ne_ext]
  unfold Scalar.cmpi live
  rw [WordCmp.cmpi_sge_eq, start_toInt, ofBool_one]
  omega

theorem off1_eq (i : grid0.Coords) : k0_off1 i = ![(i 0).val] := by
  have h0 : (i 0).val < 12 := (i 0).isLt
  funext a
  match a with
  | ⟨0, _⟩ =>
    show (BitVec.ofNat 32 (i 0).val).toNat = (i 0).val
    simp only [BitVec.toNat_ofNat]
    omega

theorem off2_eq (i : grid0.Coords) : k0_off2 i = ![(i 0).val, 256 * (i 1).val] := by
  have h0 : (i 0).val < 12 := (i 0).isLt
  have h1 : (i 1).val < 8 := (i 1).isLt
  funext a
  match a with
  | ⟨0, _⟩ =>
    show (BitVec.ofNat 32 (i 0).val).toNat = (i 0).val
    simp only [BitVec.toNat_ofNat]
    omega
  | ⟨1, _⟩ =>
    show (BitVec.ofNat 32 (i 1).val * 256#32).toNat = 256 * (i 1).val
    simp only [BitVec.toNat_mul, BitVec.toNat_ofNat]
    omega

/-- The length word the point loads. -/
theorem len_eq (arg2 : Memref sig .tc .smem S12 .i32) (f2 : BufTy.Contents (Elt Ideal) arg2.view.ty) (x2 : Vec Ideal S12 .i32) (h2 : arg2.view.read (Elt Ideal) f2 = x2)
    (inb : ∀ a, k0_off1 i a + S1.size a ≤ S12.size a) (hp : 0 < S1.numel) :
    View.readAt (Elt Ideal) arg2.view (Rect.unit (s := S12) (k0_off1 i) S1.size inb).toLoadRect f2 (Shape.Idx.first hp) = x2 (ix1 (i 0)) := by
  rw [View.readAt_apply, h2]
  congr 1
  funext a
  apply Fin.ext
  match a with
  | ⟨0, _⟩ =>
    refine (congrArg (· + 1 * 0) (congrFun (off1_eq i) 0)).trans ?_
    show (i 0).val + 1 * 0 = (i 0).val
    omega

variable (x2 : Vec Ideal S12 .i32) (x4 : Vec Ideal S1x256x2560 .bf16) (x5 : Vec Ideal S1x16x2560 .bf16) (x8 : Vec Ideal S2560x1792 .fp8e4m3) (x9 x10 : Vec Ideal S1x1792 .f32)

theorem k0_pay35_eq : k0_pay35 x8 = wtB x8 := by
  funext y
  obtain ⟨n, k, rfl⟩ : ∃ (n : Fin 1792) (k : Fin 2560), y = ix2 n k := ⟨y 0, y 1, ValueIdx.eq_ix2 y⟩
  exact pay35_apply x8 n k

theorem k0_pay36_eq : k0_pay36 x9 = colB x9 := by
  funext y
  obtain ⟨n, k, rfl⟩ : ∃ (n : Fin 1792) (k : Fin 128), y = ix2 n k := ⟨y 0, y 1, ValueIdx.eq_ix2 y⟩
  exact pay36_apply x9 n k

theorem k0_pay37_eq : k0_pay37 x10 = colB x10 := by
  funext y
  obtain ⟨n, k, rfl⟩ : ∃ (n : Fin 1792) (k : Fin 128), y = ix2 n k := ⟨y 0, y 1, ValueIdx.eq_ix2 y⟩
  exact pay37_apply x10 n k

/-- A buffer filled at the first point, read at any point: filled now, or found filled. -/
theorem filled {sg : RefSig} {κ : Kind} {sp : Space} {s : Shape} {e : EltTy} (v : View sg κ sp s e) (f : v.ty.Contents (Elt Ideal)) (p : Prop) [Decidable p] {off : Fin s.rank → ℕ}
    (inb : ∀ a, off a + s.size a ≤ s.size a) (w u : s.Idx → Elt Ideal e) (hw : w = u) (hs : ¬ p → v.read (Elt Ideal) f = u) :
    v.read (Elt Ideal) (if hc : p then v.writes (Elt Ideal) f [(⟨Rect.unit off s.size inb, w⟩ : View.Piece (Elt Ideal) s e)] else f) = u := by
  split
  · exact (View.read_writes_full v f inb w []).trans hw
  · exact hs ‹_›

theorem canonCode (arg21 : Memref sig .tc .vmem S288x2560 .fp8e4m3) (H : List (View.Piece (Elt Ideal) S288x2560 .fp8e4m3)) (hH : ∀ r k, View.canon H (ix2 r k) = codeE x4 x5 r k)
    (inb : ∀ a, (![1, 0] : Fin 2 → ℕ) a + S256x2560.size a ≤ S288x2560.size a) :
    k0_pay125 (arg21.view.readCov H (Rect.unit (s := S288x2560) ![1, 0] S256x2560.size inb).toLoadRect) = xcB x4 x5 := by
  funext y
  obtain ⟨z, r, k, rfl⟩ : ∃ (z : Fin 1) (r : Fin 256) (k : Fin 2560), y = ix3 z r k := ⟨y 0, y 1, y 2, ValueIdx.eq_ix3 y⟩
  obtain rfl : z = 0 := Subsingleton.elim _ _
  rw [pay125_apply, View.readCov_eq_canon']
  refine Eq.trans (congrArg (View.canon H) ?_) (hH ⟨r.val + 1, by omega⟩ k)
  funext a
  apply Fin.ext
  match a with
  | ⟨0, _⟩ => show 1 + 1 * r.val = r.val + 1; omega
  | ⟨1, _⟩ => show 0 + 1 * k.val = k.val; omega

theorem canonScale (arg22 : Memref sig .tc .vmem S288x128 .f32) (H : List (View.Piece (Elt Ideal) S288x128 .f32)) (hH : ∀ r k, View.canon H (ix2 r k) = scaleE x4 x5 r)
    (inb : ∀ a, (![1, 0] : Fin 2 → ℕ) a + S256x128.size a ≤ S288x128.size a) (r : Fin 256) :
    k0_pay126 (arg22.view.readCov H (Rect.unit (s := S288x128) ![1, 0] S256x128.size inb).toLoadRect) (ix2 0 r) = scaleE x4 x5 ⟨r.val + 1, by omega⟩ := by
  rw [pay126_apply, View.readCov_eq_canon']
  refine Eq.trans (congrArg (View.canon H) ?_) (hH ⟨r.val + 1, by omega⟩ 0)
  funext a
  apply Fin.ext
  match a with
  | ⟨0, _⟩ => show 1 + 1 * r.val = r.val + 1; omega
  | ⟨1, _⟩ => rfl

/-- The stretch of scales stored. -/
theorem word17 (arg17 : Memref sig .tc .vmem S12x2048 .f32) (f17 : BufTy.Contents (Elt Ideal) arg17.view.ty) (d17 : Vec Ideal S12x2048 .f32) (h17 : arg17.view.read (Elt Ideal) f17 = d17)
    (inb : ∀ a, k0_off2 i a + S1x256.size a ≤ S12x2048.size a) (w : S1x256.Idx → EReal) (hw : ∀ r : Fin 256, w (ix2 0 r) = scaleE x4 x5 ⟨r.val + 1, by omega⟩) :
    arg17.view.read (Elt Ideal) (arg17.view.writes (Elt Ideal) f17 [(⟨Rect.unit (s := S12x2048) (k0_off2 i) S1x256.size inb, w⟩ : View.Piece (Elt Ideal) S12x2048 .f32)]) = xsB i x4 x5 d17 := by
  funext y
  obtain ⟨b, s, rfl⟩ : ∃ (b : Fin 12) (s : Fin 2048), y = ix2 b s := ⟨y 0, y 1, ValueIdx.eq_ix2 y⟩
  unfold xsB
  show _ = if h : b.val = (i 0).val ∧ 256 * (i 1).val ≤ s.val ∧ s.val < 256 * (i 1).val + 256 then scaleE x4 x5 ⟨s.val - 256 * (i 1).val + 1, by omega⟩ else d17 (ix2 b s)
  split
  · rename_i h
    refine (View.read_writes_cons_unit_of_mem arg17.view f17 (size := S1x256.size) inb w [] (ix2 b s) (ix2 0 ⟨s.val - 256 * (i 1).val, by omega⟩) (off2_eq i) ?_).trans (hw _)
    intro a
    match a with
    | ⟨0, _⟩ => show b.val = (i 0).val + 0; omega
    | ⟨1, _⟩ => show s.val = 256 * (i 1).val + (s.val - 256 * (i 1).val); omega
  · rename_i h
    by_cases hb : b.val = (i 0).val
    · refine (View.read_writes_cons_unit_of_not_mem arg17.view f17 (size := S1x256.size) inb w [] (ix2 b s) (off2_eq i) 1 ?_).trans (congrFun h17 _)
      show s.val < 256 * (i 1).val ∨ 256 * (i 1).val + 256 ≤ s.val
      omega
    · refine (View.read_writes_cons_unit_of_not_mem arg17.view f17 (size := S1x256.size) inb w [] (ix2 b s) (off2_eq i) 0 ?_).trans (congrFun h17 _)
      show b.val < (i 0).val ∨ (i 0).val + 1 ≤ b.val
      omega

/-- A block with no token: every projected token is zero. -/
theorem yB_dead (h : ¬ live i (x2 (ix1 (i 0)))) (n : Fin 1792) (r : Fin 256) : yB i x2 x4 x5 x8 x9 x10 n r = 0 := by
  unfold yB
  have hq : (i 1).val < 8 := (i 1).isLt
  have hz : ¬ okW (BitVec.ofNat 32 (i 1).val) (x2 (ix1 (i 0))) r = 1#1 := by
    rw [okW_iff _ hq]
    unfold live at h
    push_cast
    omega
  exact if_neg hz

theorem nB_dead (h : ¬ live i (x2 (ix1 (i 0)))) (r : Fin 256) (n : Fin 1792) : nB i x2 x4 x5 x8 x9 x10 r n = 0 := by
  unfold nB
  rw [yB_dead x2 x4 x5 x8 x9 x10 h, zero_mul]

/-- The largest magnitude as a supremum. -/
theorem amax_eq_sup {n : ℕ} (v : Fin n → EReal) : amax v = Finset.univ.sup fun k => max (v k) (-(v k)) := rfl

theorem gscale_dead (h : ¬ live i (x2 (ix1 (i 0)))) (r : Fin 256) (g : Fin 56) : gscale (nB i x2 x4 x5 x8 x9 x10 r) g = 0 := by
  unfold gscale
  rw [amax_eq_sup]
  simp only [nB_dead x2 x4 x5 x8 x9 x10 h, neg_zero, max_self]
  rw [Finset.sup_const Finset.univ_nonempty, zero_mul]

theorem scaleK_zero : Quant.scaleK 0 = 1 := by
  obtain ⟨f, -, hlo, -, hs, -⟩ := Quant.scaleK_spec 0 le_rfl (Quant.thr_pos (by norm_num))
  have hf : f = 0 := by
    by_contra hf
    exact absurd (Quant.thr_pos hf) (not_lt.mpr hlo)
  rw [hs, hf]
  norm_num

theorem clipE_zero : clipE 0 = 0 := by
  have h1 : Ideal.ofBits .f32 0x43E00000#32 = ((448 : ℝ) : EReal) := by
    simp [Ideal.ofBits, Ideal.ieee, -EReal.coe_mul]; norm_num
  have h2 : Ideal.ofBits .f32 0xC3E00000#32 = ((-448 : ℝ) : EReal) := by
    simp [Ideal.ofBits, Ideal.ieee, -EReal.coe_mul]; norm_num
  unfold clipE
  rw [h1, h2]
  show min _ (max _ ((0 : ℝ) : EReal)) = ((0 : ℝ) : EReal)
  rw [max_eq_right (EReal.coe_le_coe_iff.mpr (by norm_num : (-448 : ℝ) ≤ 0)), min_eq_right (EReal.coe_le_coe_iff.mpr (by norm_num : (0 : ℝ) ≤ 448))]

theorem dead14 (h : ¬ live i (x2 (ix1 (i 0)))) : k0_pay1 (F := Ideal) = mvcB i x2 x4 x5 x8 x9 x10 := by
  funext y
  obtain ⟨z, r, n, rfl⟩ : ∃ (z : Fin 1) (r : Fin 256) (n : Fin 1792), y = ix3 z r n := ⟨y 0, y 1, y 2, ValueIdx.eq_ix3 y⟩
  show Ideal.ofBits .fp8e4m3 0#8 = clipE (nB i x2 x4 x5 x8 x9 x10 r n * _)
  rw [nB_dead x2 x4 x5 x8 x9 x10 h, zero_mul, clipE_zero]
  simp [Ideal.ofBits, Ideal.e4m3fn, Ideal.ieee]

theorem dead15 (h : ¬ live i (x2 (ix1 (i 0)))) : k0_pay2 (F := Ideal) = mvsB i x2 x4 x5 x8 x9 x10 := by
  funext y
  obtain ⟨z, g, r, rfl⟩ : ∃ (z : Fin 1) (g : Fin 56) (r : Fin 256), y = ix3 z g r := ⟨y 0, y 1, y 2, ValueIdx.eq_ix3 y⟩
  show Ideal.ofBits .f32 0x3F800000#32 = Quant.scaleK (gscale (nB i x2 x4 x5 x8 x9 x10 r) g)
  rw [gscale_dead x2 x4 x5 x8 x9 x10 h, scaleK_zero]
  simp [Ideal.ofBits, Ideal.ieee, -EReal.coe_mul]
  norm_num

/-- What a window is left at where the block holds a token. -/
theorem alive {sg : RefSig} {κ : Kind} {sp : Space} {s : Shape} {e : EltTy} (v : View sg κ sp s e) (f g : v.ty.Contents (Elt Ideal)) (p : Prop) [Decidable p] (hp : ¬ p)
    (u : s.Idx → Elt Ideal e) (hu : v.read (Elt Ideal) f = u) : v.read (Elt Ideal) (if hc : p then g else f) = u := by
  rw [dif_neg hp]
  exact hu

theorem word14 (w : Vec Ideal S1792x256 .fp8e4m3) (h : ∀ (r : Fin 256) (n : Fin 1792), w (ix2 n r) = mvcB i x2 x4 x5 x8 x9 x10 (ix3 0 r n)) : k0_pay34 w = mvcB i x2 x4 x5 x8 x9 x10 := by
  funext y
  obtain ⟨z, r, n, rfl⟩ : ∃ (z : Fin 1) (r : Fin 256) (n : Fin 1792), y = ix3 z r n := ⟨y 0, y 1, y 2, ValueIdx.eq_ix3 y⟩
  obtain rfl : z = 0 := Subsingleton.elim _ _
  exact (pay34_apply w r n).trans (h r n)

/-- What a window is left at where the block holds no token. -/
theorem dead {sg : RefSig} {κ : Kind} {sp : Space} {s : Shape} {e : EltTy} (v : View sg κ sp s e) (f g : v.ty.Contents (Elt Ideal)) (p : Prop) [Decidable p] (hp : p) {off : Fin s.rank → ℕ}
    (inb : ∀ a, off a + s.size a ≤ s.size a) (w u : s.Idx → Elt Ideal e) (hw : w = u) :
    v.read (Elt Ideal) (if hc : p then v.writes (Elt Ideal) f [(⟨Rect.unit off s.size inb, w⟩ : View.Piece (Elt Ideal) s e)] else g) = u := by
  rw [dif_pos hp]
  exact (View.read_writes_full v f inb w []).trans hw

end Words

section Loops

variable (c : Dev nD) (i : grid0.Coords) (arg2 : Memref sig .tc .smem S12 .i32) (harg2 : arg2.IsWhole) (arg3 : Memref sig .tc .smem S1 .f32) (harg3 : arg3.IsWhole) (arg4 : Memref sig .tc .vmem S1x256x2560 .bf16) (harg4 : arg4.IsWhole) (arg5 : Memref sig .tc .vmem S1x16x2560 .bf16) (harg5 : arg5.IsWhole) (arg6 : Memref sig .tc .vmem S12x2048 .i32) (harg6 : arg6.IsWhole) (arg7 : Memref sig .tc .vmem S1x2560 .f32) (harg7 : arg7.IsWhole) (arg8 : Memref sig .tc .vmem S2560x1792 .fp8e4m3) (harg8 : arg8.IsWhole) (arg9 : Memref sig .tc .vmem S1x1792 .f32) (harg9 : arg9.IsWhole) (arg10 : Memref sig .tc .vmem S1x1792 .f32) (harg10 : arg10.IsWhole) (arg11 : Memref sig .tc .vmem S12x2560 .f32) (harg11 : arg11.IsWhole) (arg12 : Memref sig .tc .vmem S12x2048 .f32) (harg12 : arg12.IsWhole) (arg13 : Memref sig .tc .vmem S12x2048 .f32) (harg13 : arg13.IsWhole) (arg14 : Memref sig .tc .vmem S1x256x1792 .fp8e4m3) (harg14 : arg14.IsWhole) (arg15 : Memref sig .tc .vmem S1x56x256 .f32) (harg15 : arg15.IsWhole) (arg16 : Memref sig .tc .vmem S1x256x2560 .fp8e4m3) (harg16 : arg16.IsWhole) (arg17 : Memref sig .tc .vmem S12x2048 .f32) (harg17 : arg17.IsWhole) (arg18 : Memref sig .tc .vmem S1792x2560 .fp8e4m3) (harg18 : arg18.IsWhole) (arg19 : Memref sig .tc .vmem S1792x128 .f32) (harg19 : arg19.IsWhole) (arg20 : Memref sig .tc .vmem S1792x128 .f32) (harg20 : arg20.IsWhole) (arg21 : Memref sig .tc .vmem S288x2560 .fp8e4m3) (harg21 : arg21.IsWhole) (arg22 : Memref sig .tc .vmem S288x128 .f32) (harg22 : arg22.IsWhole) (arg23 : Memref sig .tc .vmem S1792x256 .f32) (harg23 : arg23.IsWhole) (arg24 : Memref sig .tc .vmem S1792x256 .fp8e4m3) (harg24 : arg24.IsWhole)
  (x2 : Vec Ideal S12 .i32) (x4 : Vec Ideal S1x256x2560 .bf16) (x5 : Vec Ideal S1x16x2560 .bf16) (x8 : Vec Ideal S2560x1792 .fp8e4m3) (x9 x10 : Vec Ideal S1x1792 .f32)

/-- The two loops' stores, read at an element. -/
theorem loops (len : BitVec 32) (hlen : len = x2 (ix1 (i 0))) (xs : FVec Ideal S1x256 .f32) (hxs : ∀ r : Fin 256, xs (ix2 0 r) = scaleE x4 x5 ⟨r.val + 1, by omega⟩)
    (X19 : BufTy.Contents (Elt Ideal) arg19.view.ty) (h19 : arg19.view.read (Elt Ideal) X19 = colB x9)
    (X20 : BufTy.Contents (Elt Ideal) arg20.view.ty) (h20 : arg20.view.read (Elt Ideal) X20 = colB x10)
    (wt : Vec Ideal S1792x2560 .fp8e4m3) (hwt : wt = wtB x8) (xc : Vec Ideal S1x256x2560 .fp8e4m3) (hxc : xc = xcB x4 x5)
    (H23 : List (View.Piece (Elt Ideal) S1792x256 .f32)) (inb : ∀ a, (![0, 0] : Fin 2 → ℕ) a + S1792x256.size a ≤ S1792x256.size a)
    (h23 : H23 = [⟨Rect.unit (s := S1792x256) ![0, 0] S1792x256.size inb, k0_pay26 wt xc⟩])
    (f15 : BufTy.Contents (Elt Ideal) arg15.view.ty) (f24 : BufTy.Contents (Elt Ideal) arg24.view.ty) :
    let st := st_k0_t3 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (BitVec.ofNat 32 (i 1).val) len xs X19 X20 (arg23.view.writes (Elt Ideal) arg23.view.junk H23) k0_pay27 (Scf.trips k0_t3_loop.lb k0_t3_loop.ub k0_t3_loop.st)
    let pb := pb_k0_t4 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (BitVec.ofNat 32 (i 1).val) len xs st.1 (arg23.view.writes (Elt Ideal) arg23.view.junk (st.2 ++ H23)) (Scf.trips k0_t4_loop.lb k0_t4_loop.ub k0_t4_loop.st)
    arg15.view.read (Elt Ideal) (arg15.view.writes (Elt Ideal) f15 pb.1) = mvsB i x2 x4 x5 x8 x9 x10
    ∧ ∀ r : Fin 256, ∀ n : Fin 1792, arg24.view.read (Elt Ideal) (arg24.view.writes (Elt Ideal) f24 pb.2) (ix2 n r) = mvcB i x2 x4 x5 x8 x9 x10 (ix3 0 r n) := by
  intro st pb
  subst h23 hlen hwt hxc
  have hM : ∀ n r, arg23.view.read (Elt Ideal) (arg23.view.writes (Elt Ideal) arg23.view.junk [⟨Rect.unit (s := S1792x256) ![0, 0] S1792x256.size inb, k0_pay26 (wtB x8) (xcB x4 x5)⟩]) (ix2 n r)
      = ∑ k : Fin 2560, x8 (ix2 k n) * codeE x4 x5 ⟨r.val + 1, by omega⟩ k := fun n r =>
    (congrFun (View.read_writes_full arg23.view arg23.view.junk inb _ []) (ix2 n r)).trans (pay26_apply _ _ n r)
  have L := loop3_inv Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (BitVec.ofNat 32 (i 1).val) (x2 (ix1 (i 0))) xs X19 X20 _ _ (fun n => x9 (ix2 0 n)) (fun n => x10 (ix2 0 n))
    (fun n l => congrFun h19 (ix2 n l)) (fun n l => congrFun h20 (ix2 n l)) hM 56 le_rfl
  have hy : ∀ n r, yE (BitVec.ofNat 32 (i 1).val) (x2 (ix1 (i 0))) xs (fun n r => ∑ k : Fin 2560, x8 (ix2 k n) * codeE x4 x5 ⟨r.val + 1, by omega⟩ k) (fun n => x9 (ix2 0 n)) (fun n => x10 (ix2 0 n)) n r
      = yB i x2 x4 x5 x8 x9 x10 n r := fun n r => by
    unfold yE yB
    rw [hxs]
  have e3 : (Scf.trips k0_t3_loop.lb k0_t3_loop.ub k0_t3_loop.st) = 56 := trips3
  have e4 : (Scf.trips k0_t4_loop.lb k0_t4_loop.ub k0_t4_loop.st) = 56 := trips4
  have K := loop4_inv Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (BitVec.ofNat 32 (i 1).val) (x2 (ix1 (i 0))) xs st.1 (arg23.view.writes (Elt Ideal) arg23.view.junk (st.2 ++ [⟨Rect.unit (s := S1792x256) ![0, 0] S1792x256.size inb, k0_pay26 (wtB x8) (xcB x4 x5)⟩]))
    f15 f24 (yB i x2 x4 x5 x8 x9 x10) (fun r => Ideal.div 1 (max (Ideal.sqrt (∑ n : Fin 1792, yB i x2 x4 x5 x8 x9 x10 n r * yB i x2 x4 x5 x8 x9 x10 n r)) EPS))
    (fun n r => by
      rw [View.writes_append]
      refine Eq.trans ?_ ((L.1 n r).trans ((if_pos (by have := n.isLt; omega)).trans (hy n r)))
      show arg23.view.read (Elt Ideal) (arg23.view.writes (Elt Ideal) _ (st_k0_t3 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (BitVec.ofNat 32 (i 1).val) (x2 (ix1 (i 0))) xs X19 X20 _ k0_pay27 (Scf.trips k0_t3_loop.lb k0_t3_loop.ub k0_t3_loop.st)).2) (ix2 n r) = _
      rw [e3])
    (fun r => by
      rw [pay31_apply]
      have e : ∀ j : Fin 8, st.1 (ix2 j r) = ∑ g : Fin 56, ∑ q : Fin 4, yB i x2 x4 x5 x8 x9 x10 ⟨32 * g.val + (q.val * 8 + j.val), by omega⟩ r * yB i x2 x4 x5 x8 x9 x10 ⟨32 * g.val + (q.val * 8 + j.val), by omega⟩ r := fun j => by
        have := L.2 j r
        simp only [hy] at this
        refine Eq.trans ?_ this
        show (st_k0_t3 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (BitVec.ofNat 32 (i 1).val) (x2 (ix1 (i 0))) xs X19 X20 _ k0_pay27 (Scf.trips k0_t3_loop.lb k0_t3_loop.ub k0_t3_loop.st)).1 (ix2 j r) = _
        rw [e3]
      simp only [e]
      rw [sum_groups (fun n => yB i x2 x4 x5 x8 x9 x10 n r * yB i x2 x4 x5 x8 x9 x10 n r)]) 56 le_rfl
  have ep : pb = pb_k0_t4 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (BitVec.ofNat 32 (i 1).val) (x2 (ix1 (i 0))) xs st.1 (arg23.view.writes (Elt Ideal) arg23.view.junk (st.2 ++ [⟨Rect.unit (s := S1792x256) ![0, 0] S1792x256.size inb, k0_pay26 (wtB x8) (xcB x4 x5)⟩])) 56 := by
    show pb_k0_t4 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (BitVec.ofNat 32 (i 1).val) (x2 (ix1 (i 0))) xs st.1 _ (Scf.trips k0_t4_loop.lb k0_t4_loop.ub k0_t4_loop.st) = _
    rw [e4]
  rw [ep]
  constructor
  · funext y
    obtain ⟨z, g, r, rfl⟩ : ∃ (z : Fin 1) (g : Fin 56) (r : Fin 256), y = ix3 z g r := ⟨y 0, y 1, y 2, ValueIdx.eq_ix3 y⟩
    obtain rfl : z = 0 := Subsingleton.elim _ _
    exact (K.1 g r).trans (if_pos g.isLt)
  · intro r n
    exact (K.2 n r).trans (if_pos (by have := n.isLt; omega))

/-- The second loop's scales. -/
theorem loops15 (len : BitVec 32) (hlen : len = x2 (ix1 (i 0))) (xs : FVec Ideal S1x256 .f32) (hxs : ∀ r : Fin 256, xs (ix2 0 r) = scaleE x4 x5 ⟨r.val + 1, by omega⟩)
    (X19 : BufTy.Contents (Elt Ideal) arg19.view.ty) (h19 : arg19.view.read (Elt Ideal) X19 = colB x9)
    (X20 : BufTy.Contents (Elt Ideal) arg20.view.ty) (h20 : arg20.view.read (Elt Ideal) X20 = colB x10)
    (wt : Vec Ideal S1792x2560 .fp8e4m3) (hwt : wt = wtB x8) (xc : Vec Ideal S1x256x2560 .fp8e4m3) (hxc : xc = xcB x4 x5)
    (H23 : List (View.Piece (Elt Ideal) S1792x256 .f32)) (inb : ∀ a, (![0, 0] : Fin 2 → ℕ) a + S1792x256.size a ≤ S1792x256.size a)
    (h23 : H23 = [⟨Rect.unit (s := S1792x256) ![0, 0] S1792x256.size inb, k0_pay26 wt xc⟩])
    (f15 : BufTy.Contents (Elt Ideal) arg15.view.ty) (f24 : BufTy.Contents (Elt Ideal) arg24.view.ty) :
    arg15.view.read (Elt Ideal) (arg15.view.writes (Elt Ideal) f15 (pb_k0_t4 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (BitVec.ofNat 32 (i 1).val) len xs (st_k0_t3 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (BitVec.ofNat 32 (i 1).val) len xs X19 X20 (arg23.view.writes (Elt Ideal) arg23.view.junk H23) k0_pay27 (Scf.trips k0_t3_loop.lb k0_t3_loop.ub k0_t3_loop.st)).1 (arg23.view.writes (Elt Ideal) arg23.view.junk ((st_k0_t3 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (BitVec.ofNat 32 (i 1).val) len xs X19 X20 (arg23.view.writes (Elt Ideal) arg23.view.junk H23) k0_pay27 (Scf.trips k0_t3_loop.lb k0_t3_loop.ub k0_t3_loop.st)).2 ++ H23)) (Scf.trips k0_t4_loop.lb k0_t4_loop.ub k0_t4_loop.st)).1) = mvsB i x2 x4 x5 x8 x9 x10 :=
  (loops c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x2 x4 x5 x8 x9 x10 len hlen xs hxs X19 h19 X20 h20 wt hwt xc hxc H23 inb h23 f15 f24).1

/-- The second loop's codes. -/
theorem loops24 (len : BitVec 32) (hlen : len = x2 (ix1 (i 0))) (xs : FVec Ideal S1x256 .f32) (hxs : ∀ r : Fin 256, xs (ix2 0 r) = scaleE x4 x5 ⟨r.val + 1, by omega⟩)
    (X19 : BufTy.Contents (Elt Ideal) arg19.view.ty) (h19 : arg19.view.read (Elt Ideal) X19 = colB x9)
    (X20 : BufTy.Contents (Elt Ideal) arg20.view.ty) (h20 : arg20.view.read (Elt Ideal) X20 = colB x10)
    (wt : Vec Ideal S1792x2560 .fp8e4m3) (hwt : wt = wtB x8) (xc : Vec Ideal S1x256x2560 .fp8e4m3) (hxc : xc = xcB x4 x5)
    (H23 : List (View.Piece (Elt Ideal) S1792x256 .f32)) (inb : ∀ a, (![0, 0] : Fin 2 → ℕ) a + S1792x256.size a ≤ S1792x256.size a)
    (h23 : H23 = [⟨Rect.unit (s := S1792x256) ![0, 0] S1792x256.size inb, k0_pay26 wt xc⟩])
    (f15 : BufTy.Contents (Elt Ideal) arg15.view.ty) (f24 : BufTy.Contents (Elt Ideal) arg24.view.ty) (r : Fin 256) (n : Fin 1792) :
    arg24.view.read (Elt Ideal) (arg24.view.writes (Elt Ideal) f24 (pb_k0_t4 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (BitVec.ofNat 32 (i 1).val) len xs (st_k0_t3 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (BitVec.ofNat 32 (i 1).val) len xs X19 X20 (arg23.view.writes (Elt Ideal) arg23.view.junk H23) k0_pay27 (Scf.trips k0_t3_loop.lb k0_t3_loop.ub k0_t3_loop.st)).1 (arg23.view.writes (Elt Ideal) arg23.view.junk ((st_k0_t3 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (BitVec.ofNat 32 (i 1).val) len xs X19 X20 (arg23.view.writes (Elt Ideal) arg23.view.junk H23) k0_pay27 (Scf.trips k0_t3_loop.lb k0_t3_loop.ub k0_t3_loop.st)).2 ++ H23)) (Scf.trips k0_t4_loop.lb k0_t4_loop.ub k0_t4_loop.st)).2) (ix2 n r) = mvcB i x2 x4 x5 x8 x9 x10 (ix3 0 r n) :=
  (loops c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x2 x4 x5 x8 x9 x10 len hlen xs hxs X19 h19 X20 h20 wt hwt xc hxc H23 inb h23 f15 f24).2 r n

end Loops

end Cert.KernelIdeal.Values
end
-- ==== Proof.KernelIdealBody.lean ====
/-
  The kernel's body at the extended reals: what each grid point leaves in the windows of codes and scales.
-/
module

public import proofs.«01_k».proof.Proof.KernelIdealWords

@[expose] public section

set_option maxRecDepth 16384

noncomputable section

namespace Cert.KernelIdeal.Values

open Cert.KernelIdeal Cert.KernelIdeal.Gen Cert.KernelIdeal.Frames
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

set_option maxHeartbeats 8000000 in
/-- The body's triple at the extended reals: what the four windows of codes and scales and the three buffers filled at the first point are left at. -/
theorem kernelRunV (c : Dev nD) (i : grid0.Coords) (arg2 : Memref sig .tc .smem S12 .i32) (harg2 : arg2.IsWhole) (arg3 : Memref sig .tc .smem S1 .f32) (harg3 : arg3.IsWhole) (arg4 : Memref sig .tc .vmem S1x256x2560 .bf16) (harg4 : arg4.IsWhole) (arg5 : Memref sig .tc .vmem S1x16x2560 .bf16) (harg5 : arg5.IsWhole) (arg6 : Memref sig .tc .vmem S12x2048 .i32) (harg6 : arg6.IsWhole) (arg7 : Memref sig .tc .vmem S1x2560 .f32) (harg7 : arg7.IsWhole) (arg8 : Memref sig .tc .vmem S2560x1792 .fp8e4m3) (harg8 : arg8.IsWhole) (arg9 : Memref sig .tc .vmem S1x1792 .f32) (harg9 : arg9.IsWhole) (arg10 : Memref sig .tc .vmem S1x1792 .f32) (harg10 : arg10.IsWhole) (arg11 : Memref sig .tc .vmem S12x2560 .f32) (harg11 : arg11.IsWhole) (arg12 : Memref sig .tc .vmem S12x2048 .f32) (harg12 : arg12.IsWhole) (arg13 : Memref sig .tc .vmem S12x2048 .f32) (harg13 : arg13.IsWhole) (arg14 : Memref sig .tc .vmem S1x256x1792 .fp8e4m3) (harg14 : arg14.IsWhole) (arg15 : Memref sig .tc .vmem S1x56x256 .f32) (harg15 : arg15.IsWhole) (arg16 : Memref sig .tc .vmem S1x256x2560 .fp8e4m3) (harg16 : arg16.IsWhole) (arg17 : Memref sig .tc .vmem S12x2048 .f32) (harg17 : arg17.IsWhole) (arg18 : Memref sig .tc .vmem S1792x2560 .fp8e4m3) (harg18 : arg18.IsWhole) (arg19 : Memref sig .tc .vmem S1792x128 .f32) (harg19 : arg19.IsWhole) (arg20 : Memref sig .tc .vmem S1792x128 .f32) (harg20 : arg20.IsWhole) (arg21 : Memref sig .tc .vmem S288x2560 .fp8e4m3) (harg21 : arg21.IsWhole) (arg22 : Memref sig .tc .vmem S288x128 .f32) (harg22 : arg22.IsWhole) (arg23 : Memref sig .tc .vmem S1792x256 .f32) (harg23 : arg23.IsWhole) (arg24 : Memref sig .tc .vmem S1792x256 .fp8e4m3) (harg24 : arg24.IsWhole)
    (x2 : Vec Ideal S12 .i32) (x3 : Vec Ideal S1 .f32) (x4 : Vec Ideal S1x256x2560 .bf16) (x5 : Vec Ideal S1x16x2560 .bf16) (x6 : Vec Ideal S12x2048 .i32) (x7 : Vec Ideal S1x2560 .f32) (x8 : Vec Ideal S2560x1792 .fp8e4m3) (x9 : Vec Ideal S1x1792 .f32) (x10 : Vec Ideal S1x1792 .f32) (d17 : Vec Ideal S12x2048 .f32) (d18 : Vec Ideal S1792x2560 .fp8e4m3) (d19 : Vec Ideal S1792x128 .f32) (d20 : Vec Ideal S1792x128 .f32)
    (hs : ¬ Frames.kernelRun.sl.v6 i = 1#1 → d18 = wtB x8 ∧ d19 = colB x9 ∧ d20 = colB x10) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare d17 ∗ owns (c : Thread nD τ) arg18 fullShare d18 ∗ owns (c : Thread nD τ) arg19 fullShare d19 ∗ owns (c : Thread nD τ) arg20 fullShare d20 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare (mvcB i x2 x4 x5 x8 x9 x10) ∗ owns (c : Thread nD τ) arg15 fullShare (mvsB i x2 x4 x5 x8 x9 x10) ∗ owns (c : Thread nD τ) arg16 fullShare (xcB x4 x5) ∗ owns (c : Thread nD τ) arg17 fullShare (xsB i x4 x5 d17) ∗ owns (c : Thread nD τ) arg18 fullShare (wtB x8) ∗ owns (c : Thread nD τ) arg19 fullShare (colB x9) ∗ owns (c : Thread nD τ) arg20 fullShare (colB x10) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)) -∗ K ⟨⟩))
      ⊢ wp frame (wpE (defs₀ (F := Ideal)) Variants.none c none) Set.univ
          (cc0_bge_heads i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0_bge_heads_eq_skeleton]; unfold cc0_bge_heads_skel
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%f17, %h17, H17⟩, ⟨%f18, %h18, H18⟩, ⟨%f19, %h19, H19⟩, ⟨%f20, %h20, H20⟩, ⟨%d21, %f21, -, H21⟩, ⟨%d22, %f22, -, H22⟩, ⟨%d23, %f23, -, H23⟩, ⟨%d24, %f24, -, H24⟩, Hk⟩
  sl_exec
  by_cases hB : kernelRunV.sl.v1045 c i arg2 f2 = 1#1
  · sl_exec
    have hlen : kernelRunV.sl.r c i arg2 f2 = x2 (ix1 (i 0)) := len_eq arg2 f2 x2 h2 _ _
    have hC : ∀ r k, View.canon (kernelRunV.sl.H21_9 c arg4 arg5 f4 f5) (ix2 r k) = codeE x4 x5 r k := canon21 c arg4 arg5 f4 f5 x4 x5 h4 h5
    have hS : ∀ r l, View.canon (kernelRunV.sl.H22_9 c arg4 arg5 f4 f5) (ix2 r l) = scaleE x4 x5 r := canon22 c arg4 arg5 f4 f5 x4 x5 h4 h5
    by_cases hD : kernelRunV.sl.v1054 c i arg2 f2 = 1#1
    all_goals
      first
      | have hl : live i (kernelRunV.sl.r c i arg2 f2) := live_of _ hD
      | have hl : ¬ live i (kernelRunV.sl.r c i arg2 f2) := not_live_of _ hD
      sl_exec
      sl_step
      iapply Hk
      isplitl [H2]
      · iexists _; isplitr; swap; · iexact H2
        ipureintro; exact h2
      isplitl [H3]
      · iexists _; isplitr; swap; · iexact H3
        ipureintro; exact h3
      isplitl [H4]
      · iexists _; isplitr; swap; · iexact H4
        ipureintro; exact h4
      isplitl [H5]
      · iexists _; isplitr; swap; · iexact H5
        ipureintro; exact h5
      isplitl [H6]
      · iexists _; isplitr; swap; · iexact H6
        ipureintro; exact h6
      isplitl [H7]
      · iexists _; isplitr; swap; · iexact H7
        ipureintro; exact h7
      isplitl [H8]
      · iexists _; isplitr; swap; · iexact H8
        ipureintro; exact h8
      isplitl [H9]
      · iexists _; isplitr; swap; · iexact H9
        ipureintro; exact h9
      isplitl [H10]
      · iexists _; isplitr; swap; · iexact H10
        ipureintro; exact h10
      isplitl [H11]
      · iexists _, _; isplitr; swap; · iexact H11
        ipureintro; rfl
      isplitl [H12]
      · iexists _, _; isplitr; swap; · iexact H12
        ipureintro; rfl
      isplitl [H13]
      · iexists _, _; isplitr; swap; · iexact H13
        ipureintro; rfl
      isplitl [H14]
      · iexists _; isplitr; swap; · iexact H14
        ipureintro; first | exact dead arg14.view f14 _ _ ((past_iff _).mpr hl) _ _ _ (dead14 x2 x4 x5 x8 x9 x10 (hlen ▸ hl)) | exact alive arg14.view _ _ _ (fun hp => (past_iff _).mp hp hl) _ ((View.read_writes_full arg14.view f14 _ _ []).trans (word14 x2 x4 x5 x8 x9 x10 _ fun r n => (congrFun (View.readAt_full arg24.view _ _) (ix2 n r)).trans (loops24 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x2 x4 x5 x8 x9 x10 (H23 := _) (h23 := rfl) (hlen := hlen) (hxs := canonScale x4 x5 arg22 _ hS _) (h19 := filled arg19.view f19 _ _ _ _ ((congrArg k0_pay36 ((View.readAt_full arg9.view f9 _).trans h9)).trans (k0_pay36_eq x9)) (fun h => h19.trans (hs h).2.1)) (h20 := filled arg20.view f20 _ _ _ _ ((congrArg k0_pay37 ((View.readAt_full arg10.view f10 _).trans h10)).trans (k0_pay37_eq x10)) (fun h => h20.trans (hs h).2.2)) (hwt := (View.readAt_full arg18.view _ _).trans (filled arg18.view f18 _ _ _ _ ((congrArg k0_pay35 ((View.readAt_full arg8.view f8 _).trans h8)).trans (k0_pay35_eq x8)) (fun h => h18.trans (hs h).1))) (hxc := (View.readCov_full arg16.view _ _ _ []).trans (canonCode x4 x5 arg21 _ hC _)) (f15 := f15) (f24 := f24) (r := r) (n := n))))
      isplitl [H15]
      · iexists _; isplitr; swap; · iexact H15
        ipureintro; first | exact dead arg15.view f15 _ _ ((past_iff _).mpr hl) _ _ _ (dead15 x2 x4 x5 x8 x9 x10 (hlen ▸ hl)) | exact alive arg15.view _ _ _ (fun hp => (past_iff _).mp hp hl) _ (loops15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x2 x4 x5 x8 x9 x10 (H23 := _) (h23 := rfl) (hlen := hlen) (hxs := canonScale x4 x5 arg22 _ hS _) (h19 := filled arg19.view f19 _ _ _ _ ((congrArg k0_pay36 ((View.readAt_full arg9.view f9 _).trans h9)).trans (k0_pay36_eq x9)) (fun h => h19.trans (hs h).2.1)) (h20 := filled arg20.view f20 _ _ _ _ ((congrArg k0_pay37 ((View.readAt_full arg10.view f10 _).trans h10)).trans (k0_pay37_eq x10)) (fun h => h20.trans (hs h).2.2)) (hwt := (View.readAt_full arg18.view _ _).trans (filled arg18.view f18 _ _ _ _ ((congrArg k0_pay35 ((View.readAt_full arg8.view f8 _).trans h8)).trans (k0_pay35_eq x8)) (fun h => h18.trans (hs h).1))) (hxc := (View.readCov_full arg16.view _ _ _ []).trans (canonCode x4 x5 arg21 _ hC _)) (f15 := f15) (f24 := f24))
      isplitl [H16]
      · iexists _; isplitr; swap; · iexact H16
        ipureintro; exact (View.read_writes_full arg16.view _ _ _ []).trans (canonCode x4 x5 arg21 _ hC _)
      isplitl [H17]
      · iexists _; isplitr; swap; · iexact H17
        ipureintro; exact word17 x4 x5 arg17 f17 d17 h17 _ _ (canonScale x4 x5 arg22 _ hS _)
      isplitl [H18]
      · iexists _; isplitr; swap; · iexact H18
        ipureintro; exact filled arg18.view f18 _ _ _ _ ((congrArg k0_pay35 ((View.readAt_full arg8.view f8 _).trans h8)).trans (k0_pay35_eq x8)) (fun h => h18.trans (hs h).1)
      isplitl [H19]
      · iexists _; isplitr; swap; · iexact H19
        ipureintro; exact filled arg19.view f19 _ _ _ _ ((congrArg k0_pay36 ((View.readAt_full arg9.view f9 _).trans h9)).trans (k0_pay36_eq x9)) (fun h => h19.trans (hs h).2.1)
      isplitl [H20]
      · iexists _; isplitr; swap; · iexact H20
        ipureintro; exact filled arg20.view f20 _ _ _ _ ((congrArg k0_pay37 ((View.readAt_full arg10.view f10 _).trans h10)).trans (k0_pay37_eq x10)) (fun h => h20.trans (hs h).2.2)
      isplitl [H21]
      · iexists _, _; isplitr; swap; · iexact H21
        ipureintro; rfl
      isplitl [H22]
      · iexists _, _; isplitr; swap; · iexact H22
        ipureintro; rfl
      isplitl [H23]
      · iexists _, _; isplitr; swap; · iexact H23
        ipureintro; rfl
      iexists _, _; isplitr; swap; · iexact H24
      ipureintro; rfl

  · sl_exec
    have hlen : kernelRunV.sl.r c i arg2 f2 = x2 (ix1 (i 0)) := len_eq arg2 f2 x2 h2 _ _
    have hC : ∀ r k, View.canon (kernelRunV.sl.H21_9 c arg4 arg5 f4 f5) (ix2 r k) = codeE x4 x5 r k := canon21 c arg4 arg5 f4 f5 x4 x5 h4 h5
    have hS : ∀ r l, View.canon (kernelRunV.sl.H22_9 c arg4 arg5 f4 f5) (ix2 r l) = scaleE x4 x5 r := canon22 c arg4 arg5 f4 f5 x4 x5 h4 h5
    by_cases hD : kernelRunV.sl.v1054_1 c i arg2 f2 = 1#1
    all_goals
      first
      | have hl : live i (kernelRunV.sl.r c i arg2 f2) := live_of _ hD
      | have hl : ¬ live i (kernelRunV.sl.r c i arg2 f2) := not_live_of _ hD
      sl_exec
      sl_step
      iapply Hk
      isplitl [H2]
      · iexists _; isplitr; swap; · iexact H2
        ipureintro; exact h2
      isplitl [H3]
      · iexists _; isplitr; swap; · iexact H3
        ipureintro; exact h3
      isplitl [H4]
      · iexists _; isplitr; swap; · iexact H4
        ipureintro; exact h4
      isplitl [H5]
      · iexists _; isplitr; swap; · iexact H5
        ipureintro; exact h5
      isplitl [H6]
      · iexists _; isplitr; swap; · iexact H6
        ipureintro; exact h6
      isplitl [H7]
      · iexists _; isplitr; swap; · iexact H7
        ipureintro; exact h7
      isplitl [H8]
      · iexists _; isplitr; swap; · iexact H8
        ipureintro; exact h8
      isplitl [H9]
      · iexists _; isplitr; swap; · iexact H9
        ipureintro; exact h9
      isplitl [H10]
      · iexists _; isplitr; swap; · iexact H10
        ipureintro; exact h10
      isplitl [H11]
      · iexists _, _; isplitr; swap; · iexact H11
        ipureintro; rfl
      isplitl [H12]
      · iexists _, _; isplitr; swap; · iexact H12
        ipureintro; rfl
      isplitl [H13]
      · iexists _, _; isplitr; swap; · iexact H13
        ipureintro; rfl
      isplitl [H14]
      · iexists _; isplitr; swap; · iexact H14
        ipureintro; first | exact dead arg14.view f14 _ _ ((past_iff _).mpr hl) _ _ _ (dead14 x2 x4 x5 x8 x9 x10 (hlen ▸ hl)) | exact alive arg14.view _ _ _ (fun hp => (past_iff _).mp hp hl) _ ((View.read_writes_full arg14.view f14 _ _ []).trans (word14 x2 x4 x5 x8 x9 x10 _ fun r n => (congrFun (View.readAt_full arg24.view _ _) (ix2 n r)).trans (loops24 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x2 x4 x5 x8 x9 x10 (H23 := _) (h23 := rfl) (hlen := hlen) (hxs := canonScale x4 x5 arg22 _ hS _) (h19 := filled arg19.view f19 _ _ _ _ ((congrArg k0_pay36 ((View.readAt_full arg9.view f9 _).trans h9)).trans (k0_pay36_eq x9)) (fun h => h19.trans (hs h).2.1)) (h20 := filled arg20.view f20 _ _ _ _ ((congrArg k0_pay37 ((View.readAt_full arg10.view f10 _).trans h10)).trans (k0_pay37_eq x10)) (fun h => h20.trans (hs h).2.2)) (hwt := (View.readAt_full arg18.view _ _).trans (filled arg18.view f18 _ _ _ _ ((congrArg k0_pay35 ((View.readAt_full arg8.view f8 _).trans h8)).trans (k0_pay35_eq x8)) (fun h => h18.trans (hs h).1))) (hxc := (View.readCov_full arg16.view _ _ _ []).trans (canonCode x4 x5 arg21 _ hC _)) (f15 := f15) (f24 := f24) (r := r) (n := n))))
      isplitl [H15]
      · iexists _; isplitr; swap; · iexact H15
        ipureintro; first | exact dead arg15.view f15 _ _ ((past_iff _).mpr hl) _ _ _ (dead15 x2 x4 x5 x8 x9 x10 (hlen ▸ hl)) | exact alive arg15.view _ _ _ (fun hp => (past_iff _).mp hp hl) _ (loops15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x2 x4 x5 x8 x9 x10 (H23 := _) (h23 := rfl) (hlen := hlen) (hxs := canonScale x4 x5 arg22 _ hS _) (h19 := filled arg19.view f19 _ _ _ _ ((congrArg k0_pay36 ((View.readAt_full arg9.view f9 _).trans h9)).trans (k0_pay36_eq x9)) (fun h => h19.trans (hs h).2.1)) (h20 := filled arg20.view f20 _ _ _ _ ((congrArg k0_pay37 ((View.readAt_full arg10.view f10 _).trans h10)).trans (k0_pay37_eq x10)) (fun h => h20.trans (hs h).2.2)) (hwt := (View.readAt_full arg18.view _ _).trans (filled arg18.view f18 _ _ _ _ ((congrArg k0_pay35 ((View.readAt_full arg8.view f8 _).trans h8)).trans (k0_pay35_eq x8)) (fun h => h18.trans (hs h).1))) (hxc := (View.readCov_full arg16.view _ _ _ []).trans (canonCode x4 x5 arg21 _ hC _)) (f15 := f15) (f24 := f24))
      isplitl [H16]
      · iexists _; isplitr; swap; · iexact H16
        ipureintro; exact (View.read_writes_full arg16.view _ _ _ []).trans (canonCode x4 x5 arg21 _ hC _)
      isplitl [H17]
      · iexists _; isplitr; swap; · iexact H17
        ipureintro; exact word17 x4 x5 arg17 f17 d17 h17 _ _ (canonScale x4 x5 arg22 _ hS _)
      isplitl [H18]
      · iexists _; isplitr; swap; · iexact H18
        ipureintro; exact filled arg18.view f18 _ _ _ _ ((congrArg k0_pay35 ((View.readAt_full arg8.view f8 _).trans h8)).trans (k0_pay35_eq x8)) (fun h => h18.trans (hs h).1)
      isplitl [H19]
      · iexists _; isplitr; swap; · iexact H19
        ipureintro; exact filled arg19.view f19 _ _ _ _ ((congrArg k0_pay36 ((View.readAt_full arg9.view f9 _).trans h9)).trans (k0_pay36_eq x9)) (fun h => h19.trans (hs h).2.1)
      isplitl [H20]
      · iexists _; isplitr; swap; · iexact H20
        ipureintro; exact filled arg20.view f20 _ _ _ _ ((congrArg k0_pay37 ((View.readAt_full arg10.view f10 _).trans h10)).trans (k0_pay37_eq x10)) (fun h => h20.trans (hs h).2.2)
      isplitl [H21]
      · iexists _, _; isplitr; swap; · iexact H21
        ipureintro; rfl
      isplitl [H22]
      · iexists _, _; isplitr; swap; · iexact H22
        ipureintro; rfl
      isplitl [H23]
      · iexists _, _; isplitr; swap; · iexact H23
        ipureintro; rfl
      iexists _, _; isplitr; swap; · iexact H24
      ipureintro; rfl

end Cert.KernelIdeal.Values

end
-- ==== Proof.KernelIdealBlocks.lean ====
/-
  The blocks that the kernel's grid points find in the windows of arguments, read off the arguments.
-/
module

public import proofs.«01_k».proof.Proof.KernelIdealFrame
public import Idealize.ShloMosaic.Lib.Pipeline.ValueKit
public import Idealize.ShloMosaic.Lib.StableHlo.RunRead

@[expose] public section

set_option maxRecDepth 16384

noncomputable section

namespace Cert.KernelIdeal.Values

open Cert.KernelIdeal Cert.KernelIdeal.Gen Cert.KernelIdeal.Frames
open Idealize.ShloMosaic Idealize.ShloMosaic.TcCoe Idealize.ShloMosaic.Tactic
open Idealize.ShloMosaic.ValueKit

variable (m : (ℓ : Loc nD τ sig) → Buf (Elt Ideal) ℓ)

/-- Point `t` is the `t % 8`th block of rows of sequence `t / 8`. -/
theorem coords0 : ∀ t : Fin cfg0.N, (grid0.coords t 0).val = t.val / 8 ∧ (grid0.coords t 1).val = t.val % 8 :=
  (by decide +kernel : ∀ t : Fin grid0.N, (grid0.coords t 0).val = t.val / 8 ∧ (grid0.coords t 1).val = t.val % 8)

theorem index0 : ∀ t : Fin cfg0.N, win0_0.index t = ![0] :=
  (by decide +kernel : ∀ t : Fin grid0.N, _)
theorem index2 : ∀ t : Fin cfg0.N, win0_2.index t = ![t.val / 8, t.val % 8, 0] :=
  (by decide +kernel : ∀ t : Fin grid0.N, _)
theorem index3 : ∀ t : Fin cfg0.N, win0_3.index t = ![t.val / 8, min ((t.val % 8 + 1) * 16) 127, 0] :=
  (by decide +kernel : ∀ t : Fin grid0.N, _)
theorem index6 : ∀ t : Fin cfg0.N, win0_6.index t = ![0, 0] :=
  (by decide +kernel : ∀ t : Fin grid0.N, _)
theorem index7 : ∀ t : Fin cfg0.N, win0_7.index t = ![0, 0] :=
  (by decide +kernel : ∀ t : Fin grid0.N, _)
theorem index8 : ∀ t : Fin cfg0.N, win0_8.index t = ![0, 0] :=
  (by decide +kernel : ∀ t : Fin grid0.N, _)
theorem index12 : ∀ t : Fin cfg0.N, win0_12.index t = ![t.val / 8, t.val % 8, 0] :=
  (by decide +kernel : ∀ t : Fin grid0.N, _)
theorem index13 : ∀ t : Fin cfg0.N, win0_13.index t = ![t.val / 8, 0, t.val % 8] :=
  (by decide +kernel : ∀ t : Fin grid0.N, _)
theorem index14 : ∀ t : Fin cfg0.N, win0_14.index t = ![t.val / 8, t.val % 8, 0] :=
  (by decide +kernel : ∀ t : Fin grid0.N, _)

/-- The channel scales as the region finds them: one row. -/
theorem V_main_v1 (c : Dev nD) : V m c main_v1 = shapeCast S1x1792 (m ((c : Thread nD τ).loc main_arg6)) shapeCasts_S1792_S1x1792 := by
  unfold V hostOps0
  after_results_simp
  rfl

/-- The channel biases as the region finds them: one row. -/
theorem V_main_v2 (c : Dev nD) : V m c main_v2 = shapeCast S1x1792 (m ((c : Thread nD τ).loc main_arg7)) shapeCasts_S1792_S1x1792 := by
  unfold V hostOps0
  after_results_simp
  rfl

theorem iblk0 (c : Dev nD) (t : Fin cfg0.N) : iblk m c 0 t = m ((c : Thread nD τ).loc main_arg1) := by
  blk_ext! [iblk, V_main_arg1, index0 t]

theorem iblk6 (c : Dev nD) (t : Fin cfg0.N) : iblk m c 6 t = m ((c : Thread nD τ).loc main_arg5) := by
  blk_ext! [iblk, V_main_arg5, index6 t]

theorem iblk7 (c : Dev nD) (t : Fin cfg0.N) : iblk m c 7 t = shapeCast S1x1792 (m ((c : Thread nD τ).loc main_arg6)) shapeCasts_S1792_S1x1792 := by
  rw [← V_main_v1]
  blk_ext! [iblk, index7 t]

theorem iblk8 (c : Dev nD) (t : Fin cfg0.N) : iblk m c 8 t = shapeCast S1x1792 (m ((c : Thread nD τ).loc main_arg7)) shapeCasts_S1792_S1x1792 := by
  rw [← V_main_v2]
  blk_ext! [iblk, index8 t]

theorem iblk2 (c : Dev nD) (t : Fin cfg0.N) (y : S1x256x2560.Idx) (i : S12x2048x2560.Idx)
    (h0 : (i 0).val = t.val / 8) (h1 : (i 1).val = t.val % 8 * 256 + (y 1).val) (h2 : (i 2).val = (y 2).val) :
    iblk m c 2 t y = m ((c : Thread nD τ).loc main_arg0) i := by
  rw [← V_main_arg0 m c]
  idx_bounds y
  blk_ext [iblk, index2 t]

theorem iblk3 (c : Dev nD) (t : Fin cfg0.N) (y : S1x16x2560.Idx) (i : S12x2048x2560.Idx)
    (h0 : (i 0).val = t.val / 8) (h1 : (i 1).val = min ((t.val % 8 + 1) * 16) 127 * 16 + (y 1).val) (h2 : (i 2).val = (y 2).val) :
    iblk m c 3 t y = m ((c : Thread nD τ).loc main_arg0) i := by
  rw [← V_main_arg0 m c]
  idx_bounds y
  blk_ext [iblk, index3 t]

end Cert.KernelIdeal.Values

end
-- ==== Proof.KernelIdealRun.lean ====
/-
  The kernel's run at the extended reals: every point leaves in its windows of codes and scales what `kernelRunV` states.
-/
module

public import proofs.«01_k».proof.Proof.KernelIdealBody
public import proofs.«01_k».proof.Proof.KernelIdealBlocks
public import Idealize.ShloMosaic.Lib.Pipeline.ArrRel
public import Idealize.ShloMosaic.Lib.Pipeline.FrameBody

@[expose] public section

set_option maxRecDepth 16384

noncomputable section

namespace Cert.KernelIdeal.Values

open Cert.KernelIdeal Cert.KernelIdeal.Gen Cert.KernelIdeal.Frames
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (m : (ℓ : Loc nD τ sig) → Buf (Elt Ideal) ℓ) (ρ : Dev nD → PrngReg)

/-- The lengths, the weights' codes, their scales and the biases, as launched. -/
abbrev lenA (c : Dev nD) : Vec Ideal S12 .i32 := m ((c : Thread nD τ).loc main_arg1)
abbrev wA (c : Dev nD) : Vec Ideal S2560x1792 .fp8e4m3 := m ((c : Thread nD τ).loc main_arg5)
abbrev wsA (c : Dev nD) : Vec Ideal S1x1792 .f32 := shapeCast S1x1792 (m ((c : Thread nD τ).loc main_arg6)) shapeCasts_S1792_S1x1792
abbrev bA (c : Dev nD) : Vec Ideal S1x1792 .f32 := shapeCast S1x1792 (m ((c : Thread nD τ).loc main_arg7)) shapeCasts_S1792_S1x1792
/-- The block of rows of point `t`, and the sixteen rows that follow it. -/
abbrev xA (c : Dev nD) (t : Fin cfg0.N) : Vec Ideal S1x256x2560 .bf16 := iblk m c 2 t
abbrev xnA (c : Dev nD) (t : Fin cfg0.N) : Vec Ideal S1x16x2560 .bf16 := iblk m c 3 t

/-- What a window may be left at: an input as it was found, the windows of codes and scales at the body's values, the other three at anything. -/
def afterV (c : Dev nD) : (w : Fin cfg0.W) → (t : Fin cfg0.N) → (Y X : (cfg0.win w).block.Idx → Elt Ideal (cfg0.win w).elt) → Prop
  | ⟨9, _⟩, _, _, _ => True
  | ⟨10, _⟩, _, _, _ => True
  | ⟨11, _⟩, _, _, _ => True
  | ⟨12, _⟩, t, _, X => X = mvcB (grid0.coords t) (lenA m c) (xA m c t) (xnA m c t) (wA m c) (wsA m c) (bA m c)
  | ⟨13, _⟩, t, _, X => X = mvsB (grid0.coords t) (lenA m c) (xA m c t) (xnA m c t) (wA m c) (wsA m c) (bA m c)
  | ⟨14, _⟩, t, _, X => X = xcB (xA m c t) (xnA m c t)
  | ⟨15, _⟩, t, Y, X => X = xsB (grid0.coords t) (xA m c t) (xnA m c t) Y
  | _, _, Y, X => X = Y

/-- The scratch buffers between points: after the first point, three hold the weights transposed and the columns of scales and biases. -/
def PhiV (c : Dev nD) (n : ℕ) : sProp 𝕄 :=
  iprop(iprop((∃ d, ⌜n ≠ 0 → d = wtB (wA m c)⌝ ∗ owns (c : Thread nD τ) (Memref.whole cc0_scratch0) fullShare d) ∗ (∃ d, ⌜n ≠ 0 → d = colB (wsA m c)⌝ ∗ owns (c : Thread nD τ) (Memref.whole cc0_scratch1) fullShare d) ∗ (∃ d, ⌜n ≠ 0 → d = colB (bA m c)⌝ ∗ owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d)) ∗ (∃ r, prngReg c r))

theorem PhiV_entry (c : Dev nD) : (Pipeline.ΦA (Val := Elt Ideal) (U := UR sig nD τ) spec0 c : sProp 𝕄) ⊢ PhiV m c 0 := by
  rw [PhiA_eq]; unfold PhiV
  iintro ⟨⟨⟨%d0, S0⟩, ⟨%d1, S1⟩, ⟨%d2, S2⟩, S3, S4, S5, S6⟩, Hg⟩
  isplitl [S0 S1 S2 S3 S4 S5 S6]
  · isplitl [S0]
    · iexists d0; isplitr; swap; · iexact S0
      ipureintro; exact fun h => absurd rfl h
    isplitl [S1]
    · iexists d1; isplitr; swap; · iexact S1
      ipureintro; exact fun h => absurd rfl h
    isplitl [S2]
    · iexists d2; isplitr; swap; · iexact S2
      ipureintro; exact fun h => absurd rfl h
    isplitl [S3]; · iexact S3
    isplitl [S4]; · iexact S4
    isplitl [S5]; · iexact S5
    iexact S6
  iexact Hg

theorem PhiV_exit (c : Dev nD) (n : ℕ) : PhiV m c n ⊢ (Pipeline.ΦA (Val := Elt Ideal) (U := UR sig nD τ) spec0 c : sProp 𝕄) := by
  rw [PhiA_eq]; unfold PhiV
  iintro ⟨⟨⟨%d0, %h0, S0⟩, ⟨%d1, %h1, S1⟩, ⟨%d2, %h2, S2⟩, S3, S4, S5, S6⟩, Hg⟩
  isplitl [S0 S1 S2 S3 S4 S5 S6]
  · isplitl [S0]; · iexists _; iexact S0
    isplitl [S1]; · iexists _; iexact S1
    isplitl [S2]; · iexists _; iexact S2
    isplitl [S3]; · iexact S3
    isplitl [S4]; · iexact S4
    isplitl [S5]; · iexact S5
    iexact S6
  iexact Hg

/-- The proof data: the arrays as the region finds them, the relation `afterV`, the invariant `PhiV`, nothing owed. -/
def rdatV (c : Dev nD) : Pipeline.RDat τ (Elt Ideal) Unit ℕ (UR sig nD τ) ℕ cfg0 c where
  A w := V m c (Pipeline.arrRef spec0 w)
  after := afterV m c
  Φ t := PhiV m c t.val
  q w := Pipeline.shareOf spec0 w
  owed _ := 0

/-- The body fills the three buffers at the first point. -/
theorem first_point : ∀ t : Fin cfg0.N, ¬ Frames.kernelRun.sl.v6 (grid0.coords t) = 1#1 → t.val ≠ 0 :=
  (by decide +kernel : ∀ t : Fin grid0.N, ¬ Frames.kernelRun.sl.v6 (grid0.coords t) = 1#1 → t.val ≠ 0)

/-- The body at a point, its buffers spelled out. -/
theorem sound_bodyV (c : Dev nD) (t : Fin cfg0.N) (Y : (w : Fin cfg0.W) → (cfg0.win w).block.Idx → Elt Ideal (cfg0.win w).elt)
    (h0 : Y 0 = lenA m c) (h2 : Y 2 = xA m c t) (h3 : Y 3 = xnA m c t) (h6 : Y 6 = wA m c) (h7 : Y 7 = wsA m c) (h8 : Y 8 = bA m c) :
    iprop((rdatV m c).Φ t.castSucc ∗ (rdatV m c).owesAt () t.castSucc
        ∗ owns (c : Thread nD τ) (win0_0.stage (cfg0.slots t 0)) fullShare (Y 0) ∗ owns (c : Thread nD τ) (win0_1.stage (cfg0.slots t 1)) fullShare (Y 1) ∗ owns (c : Thread nD τ) (win0_2.stage (cfg0.slots t 2)) fullShare (Y 2) ∗ owns (c : Thread nD τ) (win0_3.stage (cfg0.slots t 3)) fullShare (Y 3) ∗ owns (c : Thread nD τ) (win0_4.stage (cfg0.slots t 4)) fullShare (Y 4) ∗ owns (c : Thread nD τ) (win0_5.stage (cfg0.slots t 5)) fullShare (Y 5) ∗ owns (c : Thread nD τ) (win0_6.stage (cfg0.slots t 6)) fullShare (Y 6) ∗ owns (c : Thread nD τ) (win0_7.stage (cfg0.slots t 7)) fullShare (Y 7) ∗ owns (c : Thread nD τ) (win0_8.stage (cfg0.slots t 8)) fullShare (Y 8) ∗ owns (c : Thread nD τ) (win0_9.stage (cfg0.slots t 9)) fullShare (Y 9) ∗ owns (c : Thread nD τ) (win0_10.stage (cfg0.slots t 10)) fullShare (Y 10) ∗ owns (c : Thread nD τ) (win0_11.stage (cfg0.slots t 11)) fullShare (Y 11) ∗ owns (c : Thread nD τ) (win0_12.stage (cfg0.slots t 12)) fullShare (Y 12) ∗ owns (c : Thread nD τ) (win0_13.stage (cfg0.slots t 13)) fullShare (Y 13) ∗ owns (c : Thread nD τ) (win0_14.stage (cfg0.slots t 14)) fullShare (Y 14) ∗ owns (c : Thread nD τ) (win0_15.stage (cfg0.slots t 15)) fullShare (Y 15))
      ⊢ wp frame (wpE (defs₀ (F := Ideal)) Variants.none c none) Set.univ (bodyAt0 t) fun _ =>
        iprop((rdatV m c).Φ t.succ ∗ (rdatV m c).owesAt () t.succ
          ∗ (∃ X, ⌜afterV m c 0 t (Y 0) X⌝ ∗ owns (c : Thread nD τ) (win0_0.stage (cfg0.slots t 0)) fullShare X) ∗ (∃ X, ⌜afterV m c 1 t (Y 1) X⌝ ∗ owns (c : Thread nD τ) (win0_1.stage (cfg0.slots t 1)) fullShare X) ∗ (∃ X, ⌜afterV m c 2 t (Y 2) X⌝ ∗ owns (c : Thread nD τ) (win0_2.stage (cfg0.slots t 2)) fullShare X) ∗ (∃ X, ⌜afterV m c 3 t (Y 3) X⌝ ∗ owns (c : Thread nD τ) (win0_3.stage (cfg0.slots t 3)) fullShare X) ∗ (∃ X, ⌜afterV m c 4 t (Y 4) X⌝ ∗ owns (c : Thread nD τ) (win0_4.stage (cfg0.slots t 4)) fullShare X) ∗ (∃ X, ⌜afterV m c 5 t (Y 5) X⌝ ∗ owns (c : Thread nD τ) (win0_5.stage (cfg0.slots t 5)) fullShare X) ∗ (∃ X, ⌜afterV m c 6 t (Y 6) X⌝ ∗ owns (c : Thread nD τ) (win0_6.stage (cfg0.slots t 6)) fullShare X) ∗ (∃ X, ⌜afterV m c 7 t (Y 7) X⌝ ∗ owns (c : Thread nD τ) (win0_7.stage (cfg0.slots t 7)) fullShare X) ∗ (∃ X, ⌜afterV m c 8 t (Y 8) X⌝ ∗ owns (c : Thread nD τ) (win0_8.stage (cfg0.slots t 8)) fullShare X) ∗ (∃ X, ⌜afterV m c 9 t (Y 9) X⌝ ∗ owns (c : Thread nD τ) (win0_9.stage (cfg0.slots t 9)) fullShare X) ∗ (∃ X, ⌜afterV m c 10 t (Y 10) X⌝ ∗ owns (c : Thread nD τ) (win0_10.stage (cfg0.slots t 10)) fullShare X) ∗ (∃ X, ⌜afterV m c 11 t (Y 11) X⌝ ∗ owns (c : Thread nD τ) (win0_11.stage (cfg0.slots t 11)) fullShare X) ∗ (∃ X, ⌜afterV m c 12 t (Y 12) X⌝ ∗ owns (c : Thread nD τ) (win0_12.stage (cfg0.slots t 12)) fullShare X) ∗ (∃ X, ⌜afterV m c 13 t (Y 13) X⌝ ∗ owns (c : Thread nD τ) (win0_13.stage (cfg0.slots t 13)) fullShare X) ∗ (∃ X, ⌜afterV m c 14 t (Y 14) X⌝ ∗ owns (c : Thread nD τ) (win0_14.stage (cfg0.slots t 14)) fullShare X) ∗ (∃ X, ⌜afterV m c 15 t (Y 15) X⌝ ∗ owns (c : Thread nD τ) (win0_15.stage (cfg0.slots t 15)) fullShare X)) := by
  unfold bodyAt0
  rw [show (rdatV m c).Φ t.succ = PhiV m c (t.val + 1) from rfl,
    show (rdatV m c).owesAt () t.succ = (rdatV m c).owesAt () t.castSucc from rfl,
    show (rdatV m c).Φ t.castSucc = PhiV m c t.val from rfl]
  unfold PhiV
  iintro ⟨⟨⟨⟨%d18, %e18, S0⟩, ⟨%d19, %e19, S1⟩, ⟨%d20, %e20, S2⟩, S3, S4, S5, S6⟩, Hg⟩, HO, W0, W1, W2, W3, W4, W5, W6, W7, W8, W9, W10, W11, W12, W13, W14, W15⟩
  iapply (kernelRunV c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Y 0) (Y 1) (Y 2) (Y 3) (Y 4) (Y 5) (Y 6) (Y 7) (Y 8) (Y 15) d18 d19 d20 (fun h => ⟨(e18 (first_point t h)).trans (congrArg wtB h6.symm), (e19 (first_point t h)).trans (congrArg colB h7.symm), (e20 (first_point t h)).trans (congrArg colB h8.symm)⟩))
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexists _; iexact W9
  isplitl [W10]; · iexists _; iexact W10
  isplitl [W11]; · iexists _; iexact W11
  isplitl [W12]; · iexists _; iexact W12
  isplitl [W13]; · iexists _; iexact W13
  isplitl [W14]; · iexists _; iexact W14
  isplitl [W15]; · iexact W15
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨W0, W1, W2, W3, W4, W5, W6, W7, W8, W9, W10, W11, W12, W13, W14, W15, S0, S1, S2, S3, S4, S5, S6⟩
  isplitl [S0 S1 S2 S3 S4 S5 S6 Hg]
  · isplitl [S0 S1 S2 S3 S4 S5 S6]
    · isplitl [S0]
      · iexists _; isplitr; swap; · iexact S0
        ipureintro; exact fun _ => congrArg wtB h6
      isplitl [S1]
      · iexists _; isplitr; swap; · iexact S1
        ipureintro; exact fun _ => congrArg colB h7
      isplitl [S2]
      · iexists _; isplitr; swap; · iexact S2
        ipureintro; exact fun _ => congrArg colB h8
      isplitl [S3]; · iexact S3
      isplitl [S4]; · iexact S4
      isplitl [S5]; · iexact S5
      iexact S6
    iexact Hg
  isplitl [HO]; · iexact HO
  isplitl [W0]
  · iexists _; isplitr; swap; · iexact W0
    ipureintro; exact rfl
  isplitl [W1]
  · iexists _; isplitr; swap; · iexact W1
    ipureintro; exact rfl
  isplitl [W2]
  · iexists _; isplitr; swap; · iexact W2
    ipureintro; exact rfl
  isplitl [W3]
  · iexists _; isplitr; swap; · iexact W3
    ipureintro; exact rfl
  isplitl [W4]
  · iexists _; isplitr; swap; · iexact W4
    ipureintro; exact rfl
  isplitl [W5]
  · iexists _; isplitr; swap; · iexact W5
    ipureintro; exact rfl
  isplitl [W6]
  · iexists _; isplitr; swap; · iexact W6
    ipureintro; exact rfl
  isplitl [W7]
  · iexists _; isplitr; swap; · iexact W7
    ipureintro; exact rfl
  isplitl [W8]
  · iexists _; isplitr; swap; · iexact W8
    ipureintro; exact rfl
  isplitl [W9]
  · icases W9 with ⟨%d, W9⟩
    iexists d; isplitr; swap; · iexact W9
    ipureintro; exact trivial
  isplitl [W10]
  · icases W10 with ⟨%d, W10⟩
    iexists d; isplitr; swap; · iexact W10
    ipureintro; exact trivial
  isplitl [W11]
  · icases W11 with ⟨%d, W11⟩
    iexists d; isplitr; swap; · iexact W11
    ipureintro; exact trivial
  isplitl [W12]
  · iexists _; isplitr; swap; · iexact W12
    ipureintro; rw [h0, h2, h3, h6, h7, h8]; exact rfl
  isplitl [W13]
  · iexists _; isplitr; swap; · iexact W13
    ipureintro; rw [h0, h2, h3, h6, h7, h8]; exact rfl
  isplitl [W14]
  · iexists _; isplitr; swap; · iexact W14
    ipureintro; rw [h2, h3]; exact rfl
  iexists _; isplitr; swap; · iexact W15
  ipureintro; rw [h2, h3]; exact rfl

/-- What an input window holds when the body finds it: the block of its array. -/
theorem finds_in (c : Dev nD) (t : Fin cfg0.N) (w : Fin cfg0.W) (hw : (cfg0.win w).isOut = false) (hk : ∀ t Y X, afterV m c w t Y X → X = Y)
    (hclip : ∀ t t' : Fin cfg0.N, (cfg0.win w).index t = (cfg0.win w).index t' → (cfg0.win w).clip (cfg0.grid.coords t) = (cfg0.win w).clip (cfg0.grid.coords t'))
    (Y) (hY : (rdatV m c).Finds w t Y) : ∃ d, Y = (rdatV m c).fetched w t d :=
  (rdatV m c).finds_in_eq_fetched w hw hclip hk t Y hY

/-- The library's body obligation. -/
theorem body_obligationV (c : Dev nD) : (rdatV m c).BodyObligation (defs₀ (F := Ideal)) Variants.none () Set.univ := fun t Y hY => by
  obtain ⟨_, h0⟩ := finds_in m c t 0 rfl (fun _ _ _ h => h) (fun _ _ _ => rfl) (Y 0) (hY 0)
  obtain ⟨_, h2⟩ := finds_in m c t 2 rfl (fun _ _ _ h => h) (fun _ _ _ => rfl) (Y 2) (hY 2)
  obtain ⟨_, h3⟩ := finds_in m c t 3 rfl (fun _ _ _ h => h) (fun _ _ _ => rfl) (Y 3) (hY 3)
  obtain ⟨_, h6⟩ := finds_in m c t 6 rfl (fun _ _ _ h => h) (fun _ _ _ => rfl) (Y 6) (hY 6)
  obtain ⟨_, h7⟩ := finds_in m c t 7 rfl (fun _ _ _ h => h) (fun _ _ _ => rfl) (Y 7) (hY 7)
  obtain ⟨_, h8⟩ := finds_in m c t 8 rfl (fun _ _ _ h => h) (fun _ _ _ => rfl) (Y 8) (hY 8)
  rw [bigSep_W0, bigSep_W0, defs₀_row]
  exact triple_restated (sound_bodyV m c t Y (h0.trans (iblk0 m c t)) h2 h3 (h6.trans (iblk6 m c t)) (h7.trans (iblk7 m c t)) (h8.trans (iblk8 m c t))) rfl .rfl fun _ => .rfl

-- the launch theorem's implicit arguments are found by unifying its conclusion with this statement, which unifies only
-- when unification may unfold plain definitions in a metavariable's type
set_option backward.isDefEq.respectTransparency.types false in
/-- From any memory with zero counters every weakly fair execution of @main terminates, its arrays at what `afterV` lets the points leave. -/
theorem run_mainV :
    θ_run defs (onTc (τ := τ) (main (F := Ideal))) (s₀ m ρ)
      (fun r => Pipeline.RDat.FramePost (cfgs 0) (rdatV m) (V m) r ∧ r.2.sem = fun _ => 0) :=
  Pipeline.RDat.θ_run_frame_track_shared (Q' := _) cfgs (0 : Fin 1) launch₀0 defs₀ Variants.none (rdatV m) m ρ main
    (body_obligationV m) (fun _ _ _ => rfl) (fun _ _ => rfl) (V m) (hmain m Variants.none) (fun _ _ => rfl)
    (fun c => PhiV_entry m c) (fun c => PhiV_exit m c _)

end Cert.KernelIdeal.Values

end
-- ==== Proof.KernelIdealOut.lean ====
/-
  The kernel's arrays of codes and scales after the run, element by element, from the blocks of its points.
-/
module

public import proofs.«01_k».proof.Proof.KernelIdealRun

@[expose] public section

set_option maxRecDepth 16384

noncomputable section

namespace Cert.KernelIdeal.Values

open Cert.KernelIdeal Cert.KernelIdeal.Gen Cert.KernelIdeal.Frames
open Idealize.ShloMosaic Idealize.ShloMosaic.TcCoe Idealize.ShloMosaic.Tactic
open Idealize.ShloMosaic.ValueKit Idealize.ShloMosaic.Pipeline

variable (m : (ℓ : Loc nD τ sig) → Buf (Elt Ideal) ℓ) (ρ : Dev nD → PrngReg) (c : Dev nD)

/-- The point that writes token `s` of sequence `b`. -/
def pt (b s : ℕ) : Fin cfg0.N := ⟨min (8 * b + s / 256) 95, by show _ < 96; omega⟩

theorem pt_eq (t : Fin cfg0.N) (b s : ℕ) (h : 8 * b + s / 256 = t.val) : pt b s = t := by
  have ht : t.val < 96 := t.isLt
  apply Fin.ext
  show min (8 * b + s / 256) 95 = t.val
  omega

/-- The last point. -/
def tLast : Fin cfg0.N := ⟨95, by show 95 < 96; omega⟩

/-- What the run leaves of the codes of the normalised tokens. -/
def mvcG : Vec Ideal S12x2048x1792 .fp8e4m3 := fun y =>
  mvcB (grid0.coords (pt (y 0).val (y 1).val)) (lenA m c) (xA m c (pt (y 0).val (y 1).val)) (xnA m c (pt (y 0).val (y 1).val)) (wA m c) (wsA m c) (bA m c)
    (ix3 0 ⟨(y 1).val % 256, Nat.mod_lt _ (by decide)⟩ (y 2))

/-- What the run leaves of the scales of the normalised tokens. -/
def mvsG : Vec Ideal S12x56x2047 .f32 := fun y =>
  mvsB (grid0.coords (pt (y 0).val (y 2).val)) (lenA m c) (xA m c (pt (y 0).val (y 2).val)) (xnA m c (pt (y 0).val (y 2).val)) (wA m c) (wsA m c) (bA m c)
    (ix3 0 (y 1) ⟨(y 2).val % 256, Nat.mod_lt _ (by decide)⟩)

/-- What the run leaves of the tokens' codes. -/
def xcG : Vec Ideal S12x2048x2560 .fp8e4m3 := fun y =>
  xcB (xA m c (pt (y 0).val (y 1).val)) (xnA m c (pt (y 0).val (y 1).val))
    (ix3 0 ⟨(y 1).val % 256, Nat.mod_lt _ (by decide)⟩ (y 2))

/-- What the run leaves of the tokens' scales. -/
def xsG : Vec Ideal S12x2048 .f32 := fun y =>
  scaleE (xA m c (pt (y 0).val (y 1).val)) (xnA m c (pt (y 0).val (y 1).val))
    ⟨(y 1).val % 256 + 1, by have := Nat.mod_lt (y 1).val (show 0 < 256 by decide); omega⟩

variable (after : (w : Fin cfg0.W) → Fin cfg0.N → (cfg0.win w).block.Idx → Elt Ideal (cfg0.win w).elt)

theorem mvcG_at (t : Fin cfg0.N) (j : S12x2048x1792.Idx) (y : S1x256x1792.Idx) (h0 : (j 0).val = t.val / 8) (h1 : (j 1).val = t.val % 8 * 256 + (y 1).val) (h2 : (j 2).val = (y 2).val) :
    mvcG m c j = mvcB (grid0.coords t) (lenA m c) (xA m c t) (xnA m c t) (wA m c) (wsA m c) (bA m c) y := by
  unfold mvcG
  idx_bounds y
  rw [pt_eq t _ _ (by omega)]
  congr 1
  funext a
  fin_cases a <;> apply Fin.ext
  · show 0 = (y 0).val; omega
  · show (j 1).val % 256 = (y 1).val; omega
  · exact h2

theorem arr12 (hL : ∀ w u, (cfg0.win w).flush u = true → (rdatV m c).Leaves w u (after w u)) :
    ((rdatV m c).withAfter after).arrAt 12 cfg0.N = mvcG m c := by
  refine ((rdatV m c).withAfter after).arrAt_eq_of_covers 12 _ (by decide +kernel) fun t hf y => ?_
  obtain ⟨Y, -, h⟩ := hL 12 t hf
  have h : after 12 t = mvcB (grid0.coords t) (lenA m c) (xA m c t) (xnA m c t) (wA m c) (wsA m c) (bA m c) := h
  blk_simp
  refine (congrFun h _).trans (mvcG_at m c t _ _ ?_ ?_ ?_).symm
  all_goals blk_simp [index12 t]
  all_goals first | rfl | omega

theorem mvsG_at (t : Fin cfg0.N) (j : S12x56x2047.Idx) (y : S1x56x256.Idx) (h0 : (j 0).val = t.val / 8) (h1 : (j 1).val = (y 1).val) (h2 : (j 2).val = t.val % 8 * 256 + (y 2).val) :
    mvsG m c j = mvsB (grid0.coords t) (lenA m c) (xA m c t) (xnA m c t) (wA m c) (wsA m c) (bA m c) y := by
  unfold mvsG
  idx_bounds y
  rw [pt_eq t _ _ (by omega)]
  congr 1
  funext a
  fin_cases a <;> apply Fin.ext
  · show 0 = (y 0).val; omega
  · exact h1
  · show (j 2).val % 256 = (y 2).val; omega

theorem arr13 (hL : ∀ w u, (cfg0.win w).flush u = true → (rdatV m c).Leaves w u (after w u)) :
    ((rdatV m c).withAfter after).arrAt 13 cfg0.N = mvsG m c := by
  refine ((rdatV m c).withAfter after).arrAt_eq_of_covers 13 _ (by decide +kernel) fun t hf y => ?_
  obtain ⟨Y, -, h⟩ := hL 13 t hf
  have h : after 13 t = mvsB (grid0.coords t) (lenA m c) (xA m c t) (xnA m c t) (wA m c) (wsA m c) (bA m c) := h
  have hy : (y 0).val < 1 := ((cfg0.win 13).xinj (cfg0.grid.coords t) y 0).isLt
  blk_simp
  refine (congrFun h _).trans (mvsG_at m c t _ _ ?_ ?_ ?_).symm
  all_goals blk_simp [index13 t]
  all_goals first | rfl | omega

theorem xcG_at (t : Fin cfg0.N) (j : S12x2048x2560.Idx) (y : S1x256x2560.Idx) (h0 : (j 0).val = t.val / 8) (h1 : (j 1).val = t.val % 8 * 256 + (y 1).val) (h2 : (j 2).val = (y 2).val) :
    xcG m c j = xcB (xA m c t) (xnA m c t) y := by
  unfold xcG
  idx_bounds y
  rw [pt_eq t _ _ (by omega)]
  congr 1
  funext a
  fin_cases a <;> apply Fin.ext
  · show 0 = (y 0).val; omega
  · show (j 1).val % 256 = (y 1).val; omega
  · exact h2

theorem arr14 (hL : ∀ w u, (cfg0.win w).flush u = true → (rdatV m c).Leaves w u (after w u)) :
    ((rdatV m c).withAfter after).arrAt 14 cfg0.N = xcG m c := by
  refine ((rdatV m c).withAfter after).arrAt_eq_of_covers 14 _ (by decide +kernel) fun t hf y => ?_
  obtain ⟨Y, -, h⟩ := hL 14 t hf
  have h : after 14 t = xcB (xA m c t) (xnA m c t) := h
  blk_simp
  refine (congrFun h _).trans (xcG_at m c t _ _ ?_ ?_ ?_).symm
  all_goals blk_simp [index14 t]
  all_goals first | rfl | omega

/-- Up to a point, the array of token scales holds the stretches of that point and of those before it. -/
theorem leaves15 : ∀ (n : ℕ) (hn : n < cfg0.N) (X : S12x2048.Idx → Elt Ideal .f32), (rdatV m c).Leaves 15 ⟨n, hn⟩ X →
    ∀ y : S12x2048.Idx, 8 * (y 0).val + (y 1).val / 256 ≤ n → X y = xsG m c y := by
  have now : ∀ (t : Fin cfg0.N) (Y : S12x2048.Idx → Elt Ideal .f32) (y : S12x2048.Idx), 8 * (y 0).val + (y 1).val / 256 = t.val →
      xsB (grid0.coords t) (xA m c t) (xnA m c t) Y y = xsG m c y := by
    intro t Y y hy
    idx_bounds y
    have hc := coords0 t
    unfold xsB xsG
    rw [dif_pos (by omega), pt_eq t _ _ (by omega)]
    congr 1
    apply Fin.ext
    show (y 1).val - 256 * (grid0.coords t 1).val + 1 = (y 1).val % 256 + 1
    omega
  have old : ∀ (t : Fin cfg0.N) (Y : S12x2048.Idx → Elt Ideal .f32) (y : S12x2048.Idx), 8 * (y 0).val + (y 1).val / 256 < t.val →
      xsB (grid0.coords t) (xA m c t) (xnA m c t) Y y = Y y := by
    intro t Y y hy
    idx_bounds y
    have hc := coords0 t
    unfold xsB
    rw [dif_neg (by omega)]
  intro n
  induction n with
  | zero =>
    intro hn X hX y hy
    obtain ⟨Y, -, h⟩ := hX
    have h : X = xsB (grid0.coords ⟨0, hn⟩) (xA m c ⟨0, hn⟩) (xnA m c ⟨0, hn⟩) Y := h
    rw [h]
    exact now _ _ _ (by show _ = 0; omega)
  | succ n ih =>
    intro hn X hX y hy
    obtain ⟨Y, hY, h⟩ := hX
    have h : X = xsB (grid0.coords ⟨n + 1, hn⟩) (xA m c ⟨n + 1, hn⟩) (xnA m c ⟨n + 1, hn⟩) Y := h
    rw [h]
    rcases Nat.lt_or_eq_of_le hy with hlt | heq
    · rw [old _ _ _ hlt]
      rcases ((rdatV m c).finds_of_pos (w := 15) (t := ⟨n + 1, hn⟩) rfl (Nat.succ_ne_zero n) Y).mp hY with hf | hl
      · exfalso
        have hn' : n + 1 < 96 := hn
        have := (flush0_15 _).mp hf
        dsimp only at this
        omega
      · exact ih (by omega) Y hl y (by omega)
    · exact now _ _ _ heq

theorem arr15 (hL : ∀ w u, (cfg0.win w).flush u = true → (rdatV m c).Leaves w u (after w u)) :
    ((rdatV m c).withAfter after).arrAt 15 cfg0.N = xsG m c := by
  refine ((rdatV m c).withAfter after).arrAt_eq_of_after_last 15 tLast (by decide +kernel) _ fun y => ?_
  blk_simp
  exact leaves15 m c 95 tLast.isLt _ (hL 15 tLast (by decide +kernel)) y (by idx_bounds y; omega)

/-- The run, its arrays of codes and scales named, its arguments unchanged. -/
theorem run_values : θ_run defs (onTc (τ := τ) (main (F := Ideal))) ⟨m, fun _ => 0, ρ⟩ fun r => ∀ c : Dev nD,
      r.2.mem ((c : Thread nD τ).loc main_v3_3) = mvcG m c
      ∧ r.2.mem ((c : Thread nD τ).loc main_v3_4) = mvsG m c
      ∧ r.2.mem ((c : Thread nD τ).loc main_v3_5) = xcG m c
      ∧ r.2.mem ((c : Thread nD τ).loc main_v3_6) = xsG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) := by
  refine (θ_run defs _ _).mono (fun r h c => ?_) (run_mainV m ρ)
  obtain ⟨after, hL, hA⟩ := h.1.exists_exact c
  refine ⟨(hA 12).trans (arr12 m c after hL), (hA 13).trans (arr13 m c after hL), (hA 14).trans (arr14 m c after hL), (hA 15).trans (arr15 m c after hL), ?_, ?_, ?_, ?_, ?_, ?_, ?_, ?_⟩
  · exact (h.1.arr_in c 3 rfl).trans (V_main_arg0 m c)
  · exact (h.1.arr_in c 0 rfl).trans (V_main_arg1 m c)
  · exact (h.1.arr_in c 4 rfl).trans (V_main_arg2 m c)
  · exact ((h.1 c).2 main_arg3 (Pipeline.mem_restRefs_of main_arg3 (by decide) (by decide))).trans (V_main_arg3 m c)
  · exact (h.1.arr_in c 1 rfl).trans (V_main_arg4 m c)
  · exact (h.1.arr_in c 6 rfl).trans (V_main_arg5 m c)
  · exact ((h.1 c).2 main_arg6 (Pipeline.mem_restRefs_of main_arg6 (by decide) (by decide))).trans (V_main_arg6 m c)
  · exact ((h.1 c).2 main_arg7 (Pipeline.mem_restRefs_of main_arg7 (by decide) (by decide))).trans (V_main_arg7 m c)

/-! The same arrays from the arguments. -/

/-- A row's codes. -/
def codeK (v : Fin 2560 → EReal) (k : Fin 2560) : EReal := clipE (v k * Quant.invK (amax v * C448))

/-- A row's projection and bias; zero where `ok` is not set. -/
def yK (ok : BitVec 1) (v : Fin 2560 → EReal) (w : Vec Ideal S2560x1792 .fp8e4m3) (ws b : Fin 1792 → EReal) (n : Fin 1792) : EReal :=
  Scalar.select ok ((∑ k : Fin 2560, w (ix2 k n) * codeK v k) * Quant.scaleK (amax v * C448) * ws n + b n) 0

/-- The projection divided by its length. -/
def nK (ok : BitVec 1) (v : Fin 2560 → EReal) (w : Vec Ideal S2560x1792 .fp8e4m3) (ws b : Fin 1792 → EReal) (n : Fin 1792) : EReal :=
  yK ok v w ws b n * Ideal.div 1 (max (Ideal.sqrt (∑ n : Fin 1792, yK ok v w ws b n * yK ok v w ws b n)) EPS)

/-- The token after token `s` of sequence `b`. -/
abbrev rowX (b : Fin 12) (s : Fin 2047) : Fin 2560 → EReal := fun k => m ((c : Thread nD τ).loc main_arg0) (ix3 b ⟨s.val + 1, by omega⟩ k)

/-- Whether the token after token `s` lies before the sequence's end. -/
abbrev okX (b : Fin 12) (s : Fin 2047) : BitVec 1 := IntOp.cmpi .slt (IntOp.addi (BitVec.ofNat 32 s.val) 1#32) (m ((c : Thread nD τ).loc main_arg1) (ix1 b))

theorem row_eq (b : Fin 12) (s : Fin 2047) (r : Fin 288) (hr : r.val = s.val % 256 + 1) :
    rowE (xA m c (pt b.val s.val)) (xnA m c (pt b.val s.val)) r = rowX m c b s := by
  have hp : (pt b.val s.val).val = 8 * b.val + s.val / 256 := by show min _ 95 = _; omega
  funext k
  unfold rowE
  split
  · exact iblk2 m c _ _ _ (by show b.val = _; omega) (by show s.val + 1 = _ * 256 + r.val; omega) rfl
  · have hz : (⟨r.val - 256, by omega⟩ : Fin 32) = 0 := Fin.ext (by show r.val - 256 = 0; omega)
    rw [hz, pay114_apply]
    exact iblk3 m c _ _ _ (by show b.val = _; omega) (by show s.val + 1 = min ((_ + 1) * 16) 127 * 16 + 0; omega) rfl

theorem ok_eq (b : Fin 12) (s : Fin 2047) : okW (BitVec.ofNat 32 ((grid0.coords (pt b.val s.val)) 1).val) (lenA m c (ix1 ((grid0.coords (pt b.val s.val)) 0))) ⟨s.val % 256, Nat.mod_lt _ (by decide)⟩ = okX m c b s := by
  have hp : (pt b.val s.val).val = 8 * b.val + s.val / 256 := by show min _ 95 = _; omega
  have hc := coords0 (pt b.val s.val)
  have h0 : (grid0.coords (pt b.val s.val)) 0 = b := Fin.ext (by omega)
  have h1 : ((grid0.coords (pt b.val s.val)) 1).val = s.val / 256 := by omega
  rw [h0, h1]
  have h2 : BitVec.ofNat 32 (s.val / 256) * 256#32 + 1#32 + BitVec.ofNat 32 (s.val % 256) = BitVec.ofNat 32 s.val + 1#32 := by
    apply BitVec.eq_of_toNat_eq
    simp only [BitVec.toNat_add, BitVec.toNat_mul, BitVec.toNat_ofNat]
    omega
  exact congrArg (fun z => IntOp.cmpi .slt z (m ((c : Thread nD τ).loc main_arg1) (ix1 b))) h2

theorem cols_apply (v : Vec Ideal S1792 .f32) (n : Fin 1792) : shapeCast S1x1792 v shapeCasts_S1792_S1x1792 (ix2 0 n) = v (ix1 n) := by
  pointwise

/-- The channel scales and biases, and a token's normalised row. -/
abbrev wsX (n : Fin 1792) : EReal := m ((c : Thread nD τ).loc main_arg6) (ix1 n)
abbrev bX (n : Fin 1792) : EReal := m ((c : Thread nD τ).loc main_arg7) (ix1 n)
abbrev nX (b : Fin 12) (s : Fin 2047) : Fin 1792 → EReal := nK (okX m c b s) (rowX m c b s) (wA m c) (wsX m c) (bX m c)

theorem yB_eq (b : Fin 12) (s : Fin 2047) (n : Fin 1792) :
    yB (grid0.coords (pt b.val s.val)) (lenA m c) (xA m c (pt b.val s.val)) (xnA m c (pt b.val s.val)) (wA m c) (wsA m c) (bA m c) n ⟨s.val % 256, Nat.mod_lt _ (by decide)⟩
      = yK (okX m c b s) (rowX m c b s) (wA m c) (wsX m c) (bX m c) n := by
  unfold yB
  have hw : wsA m c (ix2 0 n) = wsX m c n := cols_apply _ n
  have hb : bA m c (ix2 0 n) = bX m c n := cols_apply _ n
  rw [ok_eq m c b s, hw, hb]
  unfold codeE scaleE boundE
  rw [row_eq m c b s _ rfl]
  rfl

theorem nB_eq (b : Fin 12) (s : Fin 2047) :
    nB (grid0.coords (pt b.val s.val)) (lenA m c) (xA m c (pt b.val s.val)) (xnA m c (pt b.val s.val)) (wA m c) (wsA m c) (bA m c) ⟨s.val % 256, Nat.mod_lt _ (by decide)⟩
      = nX m c b s := by
  funext n
  unfold nB
  simp only [yB_eq m c b s]
  rfl

theorem xcG_apply (b : Fin 12) (s : Fin 2047) (k : Fin 2560) : xcG m c (ix3 b ⟨s.val, by omega⟩ k) = codeK (rowX m c b s) k := by
  show codeE (xA m c (pt b.val s.val)) (xnA m c (pt b.val s.val)) ⟨s.val % 256 + 1, by omega⟩ k = _
  unfold codeE boundE
  rw [row_eq m c b s _ rfl]
  rfl

theorem xsG_apply (b : Fin 12) (s : Fin 2047) : xsG m c (ix2 b ⟨s.val, by omega⟩) = Quant.scaleK (amax (rowX m c b s) * C448) := by
  show scaleE (xA m c (pt b.val s.val)) (xnA m c (pt b.val s.val)) ⟨s.val % 256 + 1, by omega⟩ = _
  unfold scaleE boundE
  rw [row_eq m c b s _ rfl]

theorem mvsG_apply (b : Fin 12) (g : Fin 56) (s : Fin 2047) : mvsG m c (ix3 b g s) = Quant.scaleK (gscale (nX m c b s) g) := by
  rw [← nB_eq]
  rfl

theorem mvcG_apply (b : Fin 12) (s : Fin 2047) (n : Fin 1792) :
    mvcG m c (ix3 b ⟨s.val, by omega⟩ n) = clipE (nX m c b s n * Quant.invK (gscale (nX m c b s) ⟨n.val / 32, by omega⟩)) := by
  rw [← nB_eq]
  rfl

end Cert.KernelIdeal.Values

end
-- ==== Proof.Bounds.lean ====
/-
  Bounds that keep the scales of the rows and of the groups in the range where the reference's scale is the kernel's.
-/
module

public import proofs.«01_k».proof.Proof.KernelIdealOut

@[expose] public section

noncomputable section

namespace Cert.KernelIdeal.Values

open Cert.KernelIdeal Cert.KernelIdeal.Gen
open Idealize.ShloMosaic Idealize.ShloMosaic.TcCoe

theorem coe_larger (a b : ℝ) : ((max a b : ℝ) : EReal) = max (a : EReal) (b : EReal) := EReal.coe_strictMono.monotone.map_max

theorem coe_total {n : ℕ} (f : Fin n → ℝ) : ((∑ k, f k : ℝ) : EReal) = ∑ k, (f k : EReal) :=
  map_sum (⟨⟨fun r : ℝ => (r : EReal), EReal.coe_zero⟩, EReal.coe_add⟩ : ℝ →+ EReal) f Finset.univ

theorem mag_nonneg (a : EReal) : 0 ≤ max a (-a) := by
  rcases le_total 0 a with h | h
  · exact le_max_of_le_left h
  · exact le_max_of_le_right (EReal.neg_nonneg.mpr h)

theorem amax_nonneg {n : ℕ} (v : Fin (n + 1) → EReal) : 0 ≤ amax v := by
  rw [amax_eq_sup]
  exact (mag_nonneg (v 0)).trans (Finset.le_sup (f := fun k => max (v k) (-(v k))) (Finset.mem_univ 0))

theorem amax_le {n : ℕ} (v : Fin n → EReal) (a : EReal) (h : ∀ k, max (v k) (-(v k)) ≤ a) : amax v ≤ a := by
  rw [amax_eq_sup]
  exact Finset.sup_le fun k _ => h k

/-- The factor of a bound lies between zero and one. -/
theorem C448_spec : 0 ≤ C448 ∧ C448 ≤ 1 := by
  have h : C448 = ((9586981 / 4294967296 : ℝ) : EReal) := by
    unfold C448
    simp [Ideal.ofBits, Ideal.ieee, -EReal.coe_mul]; norm_num
  rw [h]
  constructor
  · exact EReal.coe_nonneg.mpr (by norm_num)
  · exact EReal.coe_le_coe_iff.mpr (by norm_num)

theorem EPS_pos : 0 < EPS ∧ EPS ≠ ⊤ := by
  have h : ∃ r : ℝ, 0 < r ∧ EPS = (r : EReal) := by
    unfold EPS
    refine ⟨_, ?_, by simp [Ideal.ofBits, Ideal.ieee, -EReal.coe_mul]; exact rfl⟩
    norm_num
  obtain ⟨r, hr, h⟩ := h
  rw [h]
  exact ⟨EReal.coe_pos.mpr hr, EReal.coe_ne_top r⟩

theorem bound_nonneg {n : ℕ} (v : Fin (n + 1) → EReal) : 0 ≤ amax v * C448 :=
  mul_nonneg (amax_nonneg v) C448_spec.1

theorem bound_lt {n : ℕ} (v : Fin (n + 1) → EReal) (a : EReal) (ha : a * C448 < Quant.thr 253) (h : ∀ k, max (v k) (-(v k)) ≤ a) :
    amax v * C448 < Quant.thr 253 :=
  lt_of_le_of_lt (mul_le_mul_of_nonneg_right (amax_le v a h) C448_spec.1) ha

/-- Dividing a list by a bound of its length leaves nothing above one in magnitude. -/
theorem unit_bound {n : ℕ} (y : Fin n → EReal) (k : Fin n) :
    max (y k * Ideal.div 1 (max (Ideal.sqrt (∑ n, y n * y n)) EPS)) (-(y k * Ideal.div 1 (max (Ideal.sqrt (∑ n, y n * y n)) EPS))) ≤ 1 := by
  have hM : 0 < max (Ideal.sqrt (∑ n, y n * y n)) EPS := lt_max_of_lt_right EPS_pos.1
  have hdiv : ∀ M : EReal, 0 < M → Ideal.div 1 M = M⁻¹ := fun M h => by
    unfold Ideal.div
    rw [if_neg h.ne', one_mul]
  have hsq : ∀ a : EReal, 0 ≤ a * a := fun a => by
    rcases le_total 0 a with h | h
    · exact mul_nonneg h h
    · rw [← neg_mul_neg]
      exact mul_nonneg (EReal.neg_nonneg.mpr h) (EReal.neg_nonneg.mpr h)
  rw [hdiv _ hM]
  by_cases htop : (∑ n, y n * y n) = ⊤
  · rw [htop, Ideal.sqrt_top, max_eq_left le_top, EReal.inv_top, mul_zero, neg_zero, max_self]
    exact zero_le_one
  · have hfin : ∀ j, ∃ f : ℝ, y j = (f : EReal) := fun j => by
      have hle : y j * y j ≤ ∑ n, y n * y n := Finset.single_le_sum (f := fun n => y n * y n) (fun i _ => hsq (y i)) (Finset.mem_univ j)
      induction hj : y j using EReal.rec with
      | bot => rw [hj, EReal.bot_mul_bot, top_le_iff] at hle; exact absurd hle htop
      | top => rw [hj, EReal.top_mul_top, top_le_iff] at hle; exact absurd hle htop
      | coe f => exact ⟨f, rfl⟩
    choose f hf using hfin
    have hs : (∑ n, y n * y n) = ((∑ n, f n * f n : ℝ) : EReal) := by
      rw [coe_total]
      exact Finset.sum_congr rfl fun j _ => by rw [hf j, EReal.coe_mul]
    obtain ⟨e, he⟩ : ∃ e : ℝ, EPS = (e : EReal) := ⟨EPS.toReal, (EReal.coe_toReal EPS_pos.2 (ne_bot_of_gt EPS_pos.1)).symm⟩
    have hpos : 0 < e := EReal.coe_pos.mp (he ▸ EPS_pos.1)
    have hss : 0 ≤ ∑ n, f n * f n := Finset.sum_nonneg fun i _ => mul_self_nonneg (f i)
    have hk : f k * f k ≤ ∑ n, f n * f n := Finset.single_le_sum (f := fun n => f n * f n) (fun i _ => mul_self_nonneg (f i)) (Finset.mem_univ k)
    have habs : |f k| ≤ max (Real.sqrt (∑ n, f n * f n)) e := by
      refine le_max_of_le_left (Real.le_sqrt_of_sq_le ?_)
      rw [sq_abs, sq]; exact hk
    have hm : 0 < max (Real.sqrt (∑ n, f n * f n)) e := lt_max_of_lt_right hpos
    rw [hs, he, Ideal.sqrt_coe, if_neg (not_lt.mpr hss), ← coe_larger, ← EReal.coe_inv, hf k, ← EReal.coe_mul, ← EReal.coe_neg, ← coe_larger]
    refine EReal.coe_le_coe_iff.mpr ?_
    show |f k * (max (Real.sqrt (∑ n, f n * f n)) e)⁻¹| ≤ 1
    rw [abs_mul, abs_inv, abs_of_pos hm]
    exact (mul_inv_le_iff₀ hm).mpr (by rw [one_mul]; exact habs)

theorem thr253 : Quant.thr 253 = (((2 : ℝ) ^ (126 : ℕ) : ℝ) : EReal) := by
  rw [Quant.thr_coe (by norm_num) (by norm_num)]
  norm_num

theorem gscale_range (ok : BitVec 1) (v : Fin 2560 → EReal) (w : Vec Ideal S2560x1792 .fp8e4m3) (ws b : Fin 1792 → EReal) (g : Fin 56) :
    0 ≤ gscale (nK ok v w ws b) g ∧ gscale (nK ok v w ws b) g < Quant.thr 253 := by
  refine ⟨bound_nonneg _, bound_lt _ 1 ?_ fun j => unit_bound _ _⟩
  rw [one_mul, thr253]
  exact lt_of_le_of_lt C448_spec.2 (by rw [← EReal.coe_one]; exact EReal.coe_lt_coe_iff.mpr (by norm_num))

/-- A row no element of which exceeds the greatest finite value of the arguments' type. -/
theorem row_range (v : Fin 2560 → EReal) (h : ∀ k, max (v k) (-(v k)) ≤ Ideal.ofBits .bf16 0x7F7F#16) :
    0 ≤ amax v * C448 ∧ amax v * C448 < Quant.thr 253 := by
  refine ⟨bound_nonneg _, bound_lt _ _ ?_ h⟩
  have h1 : Ideal.ofBits .bf16 0x7F7F#16 = ((255 * 2 ^ (120 : ℕ) : ℝ) : EReal) := by
    simp [Ideal.ofBits, Ideal.ieee, -EReal.coe_mul]
  have h2 : C448 = ((9586981 / 4294967296 : ℝ) : EReal) := by
    unfold C448
    simp [Ideal.ofBits, Ideal.ieee, -EReal.coe_mul]; norm_num
  rw [h1, h2, thr253, ← EReal.coe_mul]
  exact EReal.coe_lt_coe_iff.mpr (by norm_num)

end Cert.KernelIdeal.Values

end
-- ==== Proof.Agree.lean ====
/-
  The reference's four launched results as the kernel's formulas, element by element, on arguments whose rows are finite.
-/
module

public import proofs.«01_k».proof.Proof.ReferenceIdealRun
public import proofs.«01_k».proof.Proof.Bounds

@[expose] public section

set_option maxRecDepth 16384

noncomputable section

namespace Cert.ReferenceIdeal.Values

open Cert.ReferenceIdeal Cert.ReferenceIdeal.Gen
open Cert.KernelIdeal.Values (amax clipE C448 EPS codeK yK nK gscale row_range gscale_range EPS_pos)
open Idealize.ShloMosaic Idealize.ShloMosaic.TcCoe Idealize.ShloMosaic.Tactic Idealize.ShloMosaic.ValueKit

variable (m : (ℓ : Loc nD τ sig) → Buf (Elt Ideal) ℓ) (c : Dev nD)

/-- The token after token `s` of sequence `b`. -/
abbrev rowR (b : Fin 12) (s : Fin 2047) : Fin 2560 → EReal := fun k => m ((c : Thread nD τ).loc main_arg0) (ix3 b ⟨s.val + 1, by omega⟩ k)

/-- Whether the token after token `s` lies within the length of sequence `b`. -/
abbrev okR (b : Fin 12) (s : Fin 2047) : BitVec 1 := IntOp.cmpi .slt (IntOp.addi (BitVec.ofNat 32 s.val) 1#32) (m ((c : Thread nD τ).loc main_arg1) (ix1 b))

abbrev wR : Vec Ideal S2560x1792 .fp8e4m3 := m ((c : Thread nD τ).loc main_arg5)
abbrev wsR (n : Fin 1792) : EReal := m ((c : Thread nD τ).loc main_arg6) (ix1 n)
abbrev bR (n : Fin 1792) : EReal := m ((c : Thread nD τ).loc main_arg7) (ix1 n)
abbrev nX (b : Fin 12) (s : Fin 2047) : Fin 1792 → EReal := nK (okR m c b s) (rowR m c b s) (wR m c) (wsR m c) (bR m c)

/-- No element of the row exceeds the greatest finite value of its type. -/
def FiniteRow (v : Fin 2560 → EReal) : Prop := ∀ k, max (v k) (-(v k)) ≤ Ideal.ofBits .bf16 0x7F7F#16

theorem row_eq (b : Fin 12) (s : Fin 2047) : (fun k : Fin 2560 => V m c main_v38 (ix3 b ⟨s.val, by omega⟩ k)) = rowR m c b s :=
  funext fun k => V38_apply m c b s k

theorem castLen (v : Vec Ideal S12 .i32) (b : Fin 12) : shapeCast S12x1x1 v shapeCasts_S12_S12x1x1 (ix3 b 0 0) = v (ix1 b) := by
  pointwise

theorem castRow (v : Vec Ideal S1792 .f32) (n : Fin 1792) : shapeCast S1x1x1792 v shapeCasts_S1792_S1x1x1792 (ix3 0 0 n) = v (ix1 n) := by
  pointwise

theorem code_agree (b : Fin 12) (s : Fin 2047) (k : Fin 2560) (h : FiniteRow (rowR m c b s)) :
    k0_pay5 (V m c main_v38) (ix3 b ⟨s.val, by omega⟩ k) = codeK (rowR m c b s) k := by
  obtain ⟨h0, h1⟩ := row_range _ h
  rw [pay5_apply, row_eq, V38_apply, Quant.scaleR_eq _ h0 h1, Quant.div_scaleK _ _ h0 h1]
  rfl

theorem scale_agree (b : Fin 12) (s : Fin 2047) (h : FiniteRow (rowR m c b s)) :
    k0_pay6 (V m c main_v38) (ix2 b ⟨s.val, by omega⟩) = Quant.scaleK (amax (rowR m c b s) * C448) := by
  obtain ⟨h0, h1⟩ := row_range _ h
  rw [pay6_apply, row_eq, Quant.scaleR_eq _ h0 h1]

theorem y_agree (b : Fin 12) (s : Fin 2047) (n : Fin 1792) (h : FiniteRow (rowR m c b s)) :
    yR (accR m c) (V m c main_v41) (V m c main_v39) b ⟨s.val, by omega⟩ n = yK (okR m c b s) (rowR m c b s) (wR m c) (wsR m c) (bR m c) n := by
  have hl : V m c main_v39 (ix3 b 0 0) = m ((c : Thread nD τ).loc main_arg1) (ix1 b) := by rw [V_main_v39]; exact castLen _ b
  have hb : V m c main_v41 (ix3 0 0 n) = bR m c n := by rw [V_main_v41]; exact castRow _ n
  have hw : V m c main_v40 (ix3 0 0 n) = wsR m c n := by rw [V_main_v40]; exact castRow _ n
  have ha : accR m c (ix3 b ⟨s.val, by omega⟩ n) = (∑ k : Fin 2560, wR m c (ix2 k n) * codeK (rowR m c b s) k) * Quant.scaleK (amax (rowR m c b s) * C448) * wsR m c n := by
    refine (pay7_apply _ _ _ b _ n).trans ?_
    have hs : (∑ k : Fin 2560, k0_pay5 (V m c main_v38) (ix3 b ⟨s.val, by omega⟩ k) * wR m c (ix2 k n)) = ∑ k : Fin 2560, wR m c (ix2 k n) * codeK (rowR m c b s) k :=
      Finset.sum_congr rfl fun k _ => by rw [code_agree m c b s k h, mul_comm]
    rw [scale_agree m c b s h, hw, hs]
  unfold yR yK
  rw [ha, hl, hb]

theorem n_agree (b : Fin 12) (s : Fin 2047) (h : FiniteRow (rowR m c b s)) :
    nR (accR m c) (V m c main_v41) (V m c main_v39) b ⟨s.val, by omega⟩ = nX m c b s := by
  have hdiv : ∀ y M : EReal, 0 < M → Ideal.div y M = y * Ideal.div 1 M := fun y M hM => by
    unfold Ideal.div
    rw [if_neg hM.ne', if_neg hM.ne', one_mul]
  have hy : yR (accR m c) (V m c main_v41) (V m c main_v39) b ⟨s.val, by omega⟩ = yK (okR m c b s) (rowR m c b s) (wR m c) (wsR m c) (bR m c) :=
    funext fun n => y_agree m c b s n h
  funext n
  unfold nR
  rw [hdiv _ _ (lt_max_of_lt_right EPS_pos.1), hy]
  rfl

theorem group_agree (b : Fin 12) (s : Fin 2047) (g : Fin 56) (h : FiniteRow (rowR m c b s)) :
    k0_pay9 (accR m c) (V m c main_v41) (V m c main_v39) (ix4 b ⟨s.val, by omega⟩ g 0) = Quant.scaleK (gscale (nX m c b s) g) := by
  have hg : amax (fun j : Fin 32 => k0_pay8 (accR m c) (V m c main_v41) (V m c main_v39) (ix4 b ⟨s.val, by omega⟩ g j)) * C448 = gscale (nX m c b s) g := by
    unfold gscale
    refine congrArg (fun v => amax v * C448) (funext fun j => ?_)
    rw [pay8_apply, n_agree m c b s h]
    exact congrArg _ (Fin.ext (by show g.val * 32 + j.val = 32 * g.val + j.val; omega))
  obtain ⟨h0, h1⟩ := gscale_range (okR m c b s) (rowR m c b s) (wR m c) (wsR m c) (bR m c) g
  rw [pay9_apply, hg, Quant.scaleR_eq _ h0 h1]

theorem norm_agree (b : Fin 12) (s : Fin 2047) (n : Fin 1792) (h : FiniteRow (rowR m c b s)) :
    k0_pay1 (k0_pay10 (accR m c) (V m c main_v41) (V m c main_v39)) (Scalar.ofBits .f32 0xC3E00000#32) (ix3 b ⟨s.val, by omega⟩ n)
      = clipE (nX m c b s n * Quant.invK (gscale (nX m c b s) ⟨n.val / 32, by omega⟩)) := by
  obtain ⟨h0, h1⟩ := gscale_range (okR m c b s) (rowR m c b s) (wR m c) (wsR m c) (bR m c) ⟨n.val / 32, by omega⟩
  have hn : (⟨n.val / 32 * 32 + n.val % 32, by omega⟩ : Fin 1792) = n := Fin.ext (by show n.val / 32 * 32 + n.val % 32 = n.val; omega)
  rw [pay1_apply, group_agree m c b s _ h, pay8_apply, n_agree m c b s h, Quant.div_scaleK _ _ h0 h1, hn]

end Cert.ReferenceIdeal.Values

end
-- ==== Proof.Results.lean ====
/-
  The two programs' arrays of codes and scales agree on equal arguments with finite tokens.
-/
module

public import proofs.«01_k».proof.Proof.Agree

@[expose] public section

set_option maxRecDepth 16384

noncomputable section

namespace Cert.Results

open Idealize.ShloMosaic Idealize.ShloMosaic.TcCoe Idealize.ShloMosaic.Tactic
open Cert.KernelIdeal.Values (amax C448 clipE codeK nK gscale)
open Cert.ReferenceIdeal.Values (FiniteRow)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The arguments the arrays depend on are the same in both memories, and the tokens are finite. -/
structure Same : Prop where
  x : (m' ((c.tc : Thread Cert.ReferenceIdeal.nD Cert.ReferenceIdeal.τ).loc Cert.ReferenceIdeal.main_arg0) : Vec Ideal Cert.KernelIdeal.S12x2048x2560 .bf16) = m ((c.tc : Thread Cert.KernelIdeal.nD Cert.KernelIdeal.τ).loc Cert.KernelIdeal.main_arg0)
  len : (m' ((c.tc : Thread Cert.ReferenceIdeal.nD Cert.ReferenceIdeal.τ).loc Cert.ReferenceIdeal.main_arg1) : Vec Ideal Cert.KernelIdeal.S12 .i32) = m ((c.tc : Thread Cert.KernelIdeal.nD Cert.KernelIdeal.τ).loc Cert.KernelIdeal.main_arg1)
  w : (m' ((c.tc : Thread Cert.ReferenceIdeal.nD Cert.ReferenceIdeal.τ).loc Cert.ReferenceIdeal.main_arg5) : Vec Ideal Cert.KernelIdeal.S2560x1792 .fp8e4m3) = m ((c.tc : Thread Cert.KernelIdeal.nD Cert.KernelIdeal.τ).loc Cert.KernelIdeal.main_arg5)
  ws : (m' ((c.tc : Thread Cert.ReferenceIdeal.nD Cert.ReferenceIdeal.τ).loc Cert.ReferenceIdeal.main_arg6) : Vec Ideal Cert.KernelIdeal.S1792 .f32) = m ((c.tc : Thread Cert.KernelIdeal.nD Cert.KernelIdeal.τ).loc Cert.KernelIdeal.main_arg6)
  b : (m' ((c.tc : Thread Cert.ReferenceIdeal.nD Cert.ReferenceIdeal.τ).loc Cert.ReferenceIdeal.main_arg7) : Vec Ideal Cert.KernelIdeal.S1792 .f32) = m ((c.tc : Thread Cert.KernelIdeal.nD Cert.KernelIdeal.τ).loc Cert.KernelIdeal.main_arg7)
  fin : ∀ (b : Fin 12) (s : Fin 2047), FiniteRow (Cert.KernelIdeal.Values.rowX m c b s)

variable {m m' c} (h : Same m m' c)

include h

theorem row_same (b : Fin 12) (s : Fin 2047) : Cert.ReferenceIdeal.Values.rowR m' c b s = Cert.KernelIdeal.Values.rowX m c b s :=
  funext fun k => congrFun h.x _

theorem row_finite (b : Fin 12) (s : Fin 2047) : FiniteRow (Cert.ReferenceIdeal.Values.rowR m' c b s) := by
  rw [row_same h]
  exact h.fin b s

theorem ok_same (b : Fin 12) (s : Fin 2047) : Cert.ReferenceIdeal.Values.okR m' c b s = Cert.KernelIdeal.Values.okX m c b s :=
  congrArg (IntOp.cmpi .slt (IntOp.addi (BitVec.ofNat 32 s.val) 1#32)) (congrFun h.len (ix1 b))

theorem w_same : Cert.ReferenceIdeal.Values.wR m' c = Cert.KernelIdeal.Values.wA m c := h.w

theorem ws_same : Cert.ReferenceIdeal.Values.wsR m' c = Cert.KernelIdeal.Values.wsX m c :=
  funext fun n => congrFun h.ws (ix1 n)

theorem b_same : Cert.ReferenceIdeal.Values.bR m' c = Cert.KernelIdeal.Values.bX m c :=
  funext fun n => congrFun h.b (ix1 n)

theorem n_same (b : Fin 12) (s : Fin 2047) : Cert.ReferenceIdeal.Values.nX m' c b s = Cert.KernelIdeal.Values.nX m c b s := by
  show nK _ _ _ _ _ = nK _ _ _ _ _
  rw [ok_same h, row_same h, w_same h, ws_same h, b_same h]

theorem mvc_same (i : Cert.KernelIdeal.S12x2048x1792.Idx) (hi : (i 1).val < 2047) :
    (Cert.ReferenceIdeal.Gen.dats m' 0 c).arrAt 5 Cert.ReferenceIdeal.cfg0.N i = Cert.KernelIdeal.Values.mvcG m c i := by
  obtain ⟨b, s, n, rfl⟩ : ∃ (b : Fin 12) (s : Fin 2047) (n : Fin 1792), i = ix3 b ⟨s.val, s.isLt.trans (by decide)⟩ n := ⟨i 0, ⟨(i 1).val, hi⟩, i 2, eq_ix3 i⟩
  rw [Cert.ReferenceIdeal.Values.arr5]
  refine (Cert.ReferenceIdeal.Values.norm_agree m' c b s n (row_finite h _ _)).trans ?_
  rw [n_same h]
  exact (Cert.KernelIdeal.Values.mvcG_apply m c b s n).symm

theorem mvs_same (i : Cert.KernelIdeal.S12x56x2047.Idx) :
    (Cert.ReferenceIdeal.Gen.dats m' 0 c).arrAt 6 Cert.ReferenceIdeal.cfg0.N i = Cert.KernelIdeal.Values.mvsG m c i := by
  obtain ⟨b, g, s, rfl⟩ : ∃ (b : Fin 12) (g : Fin 56) (s : Fin 2047), i = ix3 b g s := ⟨i 0, i 1, i 2, eq_ix3 i⟩
  rw [Cert.ReferenceIdeal.Values.arr6]
  refine (Cert.ReferenceIdeal.Values.pay2_apply _ b g s).trans ?_
  refine (Cert.ReferenceIdeal.Values.group_agree m' c b s g (row_finite h _ _)).trans ?_
  rw [n_same h]
  exact (Cert.KernelIdeal.Values.mvsG_apply m c b g s).symm

theorem xc_same (i : Cert.KernelIdeal.S12x2048x2560.Idx) (hi : (i 1).val < 2047) :
    (Cert.ReferenceIdeal.Gen.dats m' 0 c).arrAt 7 Cert.ReferenceIdeal.cfg0.N i = Cert.KernelIdeal.Values.xcG m c i := by
  obtain ⟨b, s, n, rfl⟩ : ∃ (b : Fin 12) (s : Fin 2047) (n : Fin 2560), i = ix3 b ⟨s.val, s.isLt.trans (by decide)⟩ n := ⟨i 0, ⟨(i 1).val, hi⟩, i 2, eq_ix3 i⟩
  rw [Cert.ReferenceIdeal.Values.arr7]
  refine (Cert.ReferenceIdeal.Values.code_agree m' c b s n (row_finite h _ _)).trans ?_
  rw [row_same h]
  exact (Cert.KernelIdeal.Values.xcG_apply m c b s n).symm

theorem xs_same (i : Cert.KernelIdeal.S12x2048.Idx) (hi : (i 1).val < 2047) :
    (Cert.ReferenceIdeal.Gen.dats m' 0 c).arrAt 8 Cert.ReferenceIdeal.cfg0.N i = Cert.KernelIdeal.Values.xsG m c i := by
  obtain ⟨b, s, rfl⟩ : ∃ (b : Fin 12) (s : Fin 2047), i = ix2 b ⟨s.val, s.isLt.trans (by decide)⟩ := ⟨i 0, ⟨(i 1).val, hi⟩, eq_ix2 i⟩
  rw [Cert.ReferenceIdeal.Values.arr8]
  refine (Cert.ReferenceIdeal.Values.scale_agree m' c b s (row_finite h _ _)).trans ?_
  rw [row_same h]
  exact (Cert.KernelIdeal.Values.xsG_apply m c b s).symm

end Cert.Results

end
-- ==== Proof.Masks.lean ====
/-
  The precondition as a bound on every element, and the elements the claim on the tokens covers.
-/
module

public import proofs.«01_k».proof.Pre_finite
public import proofs.«01_k».proof.On_tokens_only
public import Idealize.ShloMosaic.PureOps.Ideal
public import Idealize.ShloMosaic.Lib.ReduceAll
public import Idealize.ShloMosaic.Lib.WordCmp

@[expose] public section

noncomputable section

namespace Cert.Masks

open Idealize.ShloMosaic

theorem finiteFacts : Cert.Pre_finite.Facts := ⟨by decide, by decide, by decide⟩
theorem tokensFacts : Cert.On_tokens_only.Facts := ⟨by decide, by decide, by decide, by decide, by decide⟩

instance : Subsingleton Cert.Pre_finite.S_.Idx := ⟨fun a b => funext fun k => k.elim0⟩

theorem finite_all [Cert.Pre_finite.Facts] (x : FVec Ideal Cert.Pre_finite.S12x2048x2560 .bf16) (a1 : IVec Cert.Pre_finite.S12 32) (a2 : IVec Cert.Pre_finite.S12x2048 32)
    (a3 : FVec Ideal Cert.Pre_finite.S2560 .f32) (a4 : FVec Ideal Cert.Pre_finite.S1 .f32) (a5 : FVec Ideal Cert.Pre_finite.S2560x1792 .fp8e4m3)
    (a6 a7 : FVec Ideal Cert.Pre_finite.S1792 .f32) (h : Cert.Pre_finite.fn x a1 a2 a3 a4 a5 a6 a7 = fun _ => 1#1) (i : Cert.Pre_finite.S12x2048x2560.Idx) :
    max (x i) (-(x i)) ≤ Ideal.ofBits .bf16 0x7F7F#16 := by
  have e := congrFun h (fun k => k.elim0)
  have hi := Host.reduce_andi_all _ _ _ _ _ e i
  have hi' : BitVec.ofBool (decide (max (x i) (-(x i)) ≤ Ideal.ofBits .bf16 0x7F7F#16)) = 1#1 := hi
  exact (WordCmp.ofBool_decide_eq_one_iff _).1 hi'

variable [Cert.On_tokens_only.Facts] (x : FVec Ideal Cert.On_tokens_only.S12x2048x2560 .bf16) (a1 : IVec Cert.On_tokens_only.S12 32) (a2 : IVec Cert.On_tokens_only.S12x2048 32)
    (a3 : FVec Ideal Cert.On_tokens_only.S2560 .f32) (a4 : FVec Ideal Cert.On_tokens_only.S1 .f32) (a5 : FVec Ideal Cert.On_tokens_only.S2560x1792 .fp8e4m3)
    (a6 a7 : FVec Ideal Cert.On_tokens_only.S1792 .f32)

theorem none (n : ℕ) (hn : n < 12) (h : IntOp.cmpi .slt (BitVec.ofNat 32 n) (BitVec.ofNat 32 0) = 1#1) : False :=
  absurd ((WordCmp.cmpi_slt_ofNat_eq_one_iff (by omega) (by omega)).1 h) (Nat.not_lt_zero n)

theorem rows (n : ℕ) (hn : n < 2048) (h : IntOp.cmpi .slt (BitVec.ofNat 32 n) (BitVec.ofNat 32 2047) = 1#1) : n < 2047 :=
  (WordCmp.cmpi_slt_ofNat_eq_one_iff (by omega) (by omega)).1 h

theorem on0 (i : (⟨2, ![12, 2560]⟩ : Shape).Idx) (h : (Cert.On_tokens_only.fn x a1 a2 a3 a4 a5 a6 a7).1 i = 1#1) : False :=
  none (i 0).val (i 0).isLt h

theorem on1 (i : (⟨2, ![12, 2048]⟩ : Shape).Idx) (h : (Cert.On_tokens_only.fn x a1 a2 a3 a4 a5 a6 a7).2.1 i = 1#1) : False :=
  none (i 0).val (i 0).isLt h

theorem on2 (i : (⟨2, ![12, 2048]⟩ : Shape).Idx) (h : (Cert.On_tokens_only.fn x a1 a2 a3 a4 a5 a6 a7).2.2.1 i = 1#1) : False :=
  none (i 0).val (i 0).isLt h

theorem on3 (i : (⟨3, ![12, 2048, 1792]⟩ : Shape).Idx) (h : (Cert.On_tokens_only.fn x a1 a2 a3 a4 a5 a6 a7).2.2.2.1 i = 1#1) : (i 1).val < 2047 :=
  rows (i 1).val (i 1).isLt h

theorem on5 (i : (⟨3, ![12, 2048, 2560]⟩ : Shape).Idx) (h : (Cert.On_tokens_only.fn x a1 a2 a3 a4 a5 a6 a7).2.2.2.2.2.1 i = 1#1) : (i 1).val < 2047 :=
  rows (i 1).val (i 1).isLt h

theorem on6 (i : (⟨2, ![12, 2048]⟩ : Shape).Idx) (h : (Cert.On_tokens_only.fn x a1 a2 a3 a4 a5 a6 a7).2.2.2.2.2.2 i = 1#1) : (i 1).val < 2047 :=
  rows (i 1).val (i 1).isLt h

end Cert.Masks

end
-- ==== Proof.lean ====
module

public import proofs.«01_k».proof.Defs
public import proofs.«01_k».proof.Proof.KernelFrame
public import proofs.«01_k».proof.Proof.KernelIdealFrame
public import proofs.«01_k».proof.Proof.Results
public import proofs.«01_k».proof.Proof.Masks
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value

@[expose] public section

noncomputable section

namespace Cert.Proof

open Idealize.ShloMosaic Idealize.SL.Sem

/-- The codes and scales of every token but the padding, in both programs, over the extended reals. -/
theorem algebraic : Cert.algebraic_KernelIdeal_ReferenceIdeal_on_tokens_only_pre_finite (hKernelIdeal := Cert.KernelIdeal.Gen.facts)
    (hReferenceIdeal := Cert.ReferenceIdeal.Gen.facts) (hPre_finite := Cert.Masks.finiteFacts) (hOn_tokens_only := Cert.Masks.tokensFacts) := by
  intro m g m' g' hpre hargs
  have same : ∀ c : Dev Cert.KernelIdeal.nD, Cert.Results.Same m m' c := fun c =>
    { x := (hargs c).1
      len := (hargs c).2.1
      w := (hargs c).2.2.2.2.2.1
      ws := (hargs c).2.2.2.2.2.2.1
      b := (hargs c).2.2.2.2.2.2.2
      fin := letI := Cert.Masks.finiteFacts; fun _ _ _ => Cert.Masks.finite_all _ _ _ _ _ _ _ _ (hpre c) _ }
  letI := Cert.Masks.tokensFacts
  refine ⟨fun c => m ((c.tc : Thread Cert.KernelIdeal.nD Cert.KernelIdeal.τ).loc Cert.KernelIdeal.main_v3_0),
    fun c => m ((c.tc : Thread Cert.KernelIdeal.nD Cert.KernelIdeal.τ).loc Cert.KernelIdeal.main_v3_1),
    fun c => m ((c.tc : Thread Cert.KernelIdeal.nD Cert.KernelIdeal.τ).loc Cert.KernelIdeal.main_v3_2),
    fun c => Cert.KernelIdeal.Values.mvcG m c, fun c => Cert.KernelIdeal.Values.mvsG m c,
    fun c => Cert.KernelIdeal.Values.xcG m c, fun c => Cert.KernelIdeal.Values.xsG m c, ?_, ?_⟩
  · refine (θ_run _ _ _).mono (fun r h c => ?_) (Cert.KernelIdeal.Values.run_values m g)
    obtain ⟨h3, h4, h5, h6, hk⟩ := h c
    exact ⟨fun i hi => (Cert.Masks.on0 _ _ _ _ _ _ _ _ i hi).elim, fun i hi => (Cert.Masks.on1 _ _ _ _ _ _ _ _ i hi).elim,
      fun i hi => (Cert.Masks.on2 _ _ _ _ _ _ _ _ i hi).elim, fun i _ => congrFun h3 i, fun i _ => congrFun h4 i,
      fun i _ => congrFun h5 i, fun i _ => congrFun h6 i, hk⟩
  · refine (θ_run _ _ _).mono (fun r h c => ?_) (Cert.ReferenceIdeal.Value.run_blocks m' g')
    obtain ⟨h3, h4, h5, h6, hk⟩ := h c
    exact ⟨fun i hi => (Cert.Masks.on0 _ _ _ _ _ _ _ _ i hi).elim, fun i hi => (Cert.Masks.on1 _ _ _ _ _ _ _ _ i hi).elim,
      fun i hi => (Cert.Masks.on2 _ _ _ _ _ _ _ _ i hi).elim,
      fun i hi => (congrFun h3 i).trans (Cert.Results.mvc_same (same c) i (Cert.Masks.on3 _ _ _ _ _ _ _ _ i hi)),
      fun i _ => (congrFun h4 i).trans (Cert.Results.mvs_same (same c) i),
      fun i hi => (congrFun h5 i).trans (Cert.Results.xc_same (same c) i (Cert.Masks.on5 _ _ _ _ _ _ _ _ i hi)),
      fun i hi => (congrFun h6 i).trans (Cert.Results.xs_same (same c) i (Cert.Masks.on6 _ _ _ _ _ _ _ _ i hi)), hk⟩

theorem claim : Cert.Claim :=
  ⟨Cert.Kernel.Gen.facts, Cert.KernelIdeal.Gen.facts, Cert.ReferenceIdeal.Gen.facts, Cert.Masks.finiteFacts, Cert.Masks.tokensFacts,
    fun m g _ => Cert.Kernel.Frames.frame m g, fun m g _ => Cert.KernelIdeal.Frames.frame m g, fun m g _ => Cert.KernelIdeal.Frames.frame m g,
    fun m g _ => Cert.ReferenceIdeal.Gen.frame m g, fun m g _ => Cert.ReferenceIdeal.Gen.frame m g, trivial, algebraic⟩

end Cert.Proof

end
